-- ==== Defs.lean ====
def Pre_Kernel [hPre_t_in_range : Cert.Pre_t_in_range.Facts] (m : (ℓ : Loc Cert.Kernel.nD Cert.Kernel.τ Cert.Kernel.sig) → Buf (Elt Bits) ℓ) : Prop :=
  ∀ c : Dev Cert.Kernel.nD,
    (Cert.Pre_t_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_t_in_range : Cert.Pre_t_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_t_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_t_in_range_w_finite [hPre_t_in_range_w_finite : Cert.Pre_t_in_range_w_finite.Facts] (m : (ℓ : Loc Cert.KernelIdeal.nD Cert.KernelIdeal.τ Cert.KernelIdeal.sig) → Buf (Elt Ideal) ℓ) : Prop :=
  ∀ c : Dev Cert.KernelIdeal.nD,
    (Cert.Pre_t_in_range_w_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_t_in_range_w_finite [hPre_t_in_range_w_finite : Cert.Pre_t_in_range_w_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_t_in_range_w_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_t_in_range : Cert.Pre_t_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_t_in_range : Cert.Pre_t_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_t_in_range_w_finite [hKernelIdeal : Cert.KernelIdeal.Facts] [hPre_t_in_range_w_finite : Cert.Pre_t_in_range_w_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_t_in_range_w_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_t_in_range_w_finite [hReferenceIdeal : Cert.ReferenceIdeal.Facts] [hPre_t_in_range_w_finite : Cert.Pre_t_in_range_w_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_t_in_range_w_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_t_in_range_w_finite [hKernelIdeal : Cert.KernelIdeal.Facts] [hReferenceIdeal : Cert.ReferenceIdeal.Facts] [hPre_t_in_range_w_finite : Cert.Pre_t_in_range_w_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_t_in_range_w_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_t_in_range : Cert.Pre_t_in_range.Facts) (hPre_t_in_range_w_finite : Cert.Pre_t_in_range_w_finite.Facts),
    quiescent_Kernel (hKernel := hKernel) (hPre_t_in_range := hPre_t_in_range)
    ∧ quiescent_KernelIdeal (hKernelIdeal := hKernelIdeal) (hPre_t_in_range := hPre_t_in_range)
    ∧ quiescent_KernelIdeal_pre_t_in_range_w_finite (hKernelIdeal := hKernelIdeal) (hPre_t_in_range_w_finite := hPre_t_in_range_w_finite)
    ∧ quiescent_ReferenceIdeal (hReferenceIdeal := hReferenceIdeal)
    ∧ quiescent_ReferenceIdeal_pre_t_in_range_w_finite (hReferenceIdeal := hReferenceIdeal) (hPre_t_in_range_w_finite := hPre_t_in_range_w_finite)
    ∧ preserves_Kernel_KernelIdeal
    ∧ algebraic_KernelIdeal_ReferenceIdeal_pre_t_in_range_w_finite (hKernelIdeal := hKernelIdeal) (hReferenceIdeal := hReferenceIdeal) (hPre_t_in_range_w_finite := hPre_t_in_range_w_finite)
-- ==== Pre_t_in_range.lean ====
abbrev S40000x501 : Shape := ⟨2, ![40000, 501]⟩
abbrev S1x1 : Shape := ⟨2, ![1, 1]⟩
abbrev S1 : Shape := ⟨1, ![1]⟩
abbrev S_ : Shape := ⟨0, ![]⟩
abbrev S10000 : Shape := ⟨1, ![10000]⟩
abbrev S2x128x500 : Shape := ⟨3, ![2, 128, 500]⟩
abbrev S128x1 : Shape := ⟨2, ![128, 1]⟩
abbrev S2x2x128 : Shape := ⟨3, ![2, 2, 128]⟩

class Facts : Prop where

variable [Facts]

def fn {F : FTy → Type} [FloatOps F] (main_arg0 : FVec F S40000x501 .f32) (main_arg1 : FVec F S1x1 .f32) (main_arg2 : FVec F S1 .f32) (main_arg3 : IVec S_ 32) (main_arg4 : IVec S10000 32) (main_arg5 : IVec S_ 32) (main_arg6 : FVec F S2x128x500 .f32) (main_arg7 : FVec F S2x128x500 .f32) (main_arg8 : FVec F S128x1 .f32) (main_arg9 : FVec F S2x2x128 .f32) (main_arg10 : FVec F S2x2x128 .f32) : IVec S_ 1 :=
  let main_c : IVec S_ 32 := constantI S_ 32 0#32
  let main_v0 : IVec S_ 1 := cmpi .sge main_arg3 main_c
  let main_c_0 : IVec S_ 32 := constantI S_ 32 2#32
  let main_v1 : IVec S_ 1 := cmpi .slt main_arg3 main_c_0
  let main_v2 : IVec S_ 1 := andi main_v0 main_v1
  main_v2
-- ==== Pre_t_in_range_w_finite.lean ====
abbrev S40000x501 : Shape := ⟨2, ![40000, 501]⟩
abbrev S1x1 : Shape := ⟨2, ![1, 1]⟩
abbrev S1 : Shape := ⟨1, ![1]⟩
abbrev S_ : Shape := ⟨0, ![]⟩
abbrev S10000 : Shape := ⟨1, ![10000]⟩
abbrev S2x128x500 : Shape := ⟨3, ![2, 128, 500]⟩
abbrev S128x1 : Shape := ⟨2, ![128, 1]⟩
abbrev S2x2x128 : Shape := ⟨3, ![2, 2, 128]⟩

class Facts : Prop where
  bcast_S_S2x128x500 : S_.BroadcastsInDim S2x128x500 (![] : Fin 0 → Fin S2x128x500.rank)
  reducesTo_S2x128x500_S_d0_1_2 : S2x128x500.ReducesTo [0, 1, 2] S_
  h_S_ : 0 < S_.numel

variable [Facts]

def fn {F : FTy → Type} [FloatOps F] (main_arg0 : FVec F S40000x501 .f32) (main_arg1 : FVec F S1x1 .f32) (main_arg2 : FVec F S1 .f32) (main_arg3 : IVec S_ 32) (main_arg4 : IVec S10000 32) (main_arg5 : IVec S_ 32) (main_arg6 : FVec F S2x128x500 .f32) (main_arg7 : FVec F S2x128x500 .f32) (main_arg8 : FVec F S128x1 .f32) (main_arg9 : FVec F S2x2x128 .f32) (main_arg10 : FVec F S2x2x128 .f32) : IVec S_ 1 :=
  let main_c : IVec S_ 32 := constantI S_ 32 0#32
  let main_v0 : IVec S_ 1 := cmpi .sge main_arg3 main_c
  let main_c_0 : IVec S_ 32 := constantI S_ 32 2#32
  let main_v1 : IVec S_ 1 := cmpi .slt main_arg3 main_c_0
  let main_v2 : IVec S_ 1 := andi main_v0 main_v1
  let main_v3 : FVec F S2x128x500 .f32 := Host.absf main_arg6
  let main_cst : FVec F S_ .f32 := constant S_ .f32 0x7F800000#32
  let main_v4 : FVec F S2x128x500 .f32 := broadcastInDim S2x128x500 ![] bcast_S_S2x128x500 main_cst
  let main_v5 : IVec S2x128x500 1 := cmpf .olt main_v3 main_v4
  let main_c_1 : IVec S_ 1 := constantI S_ 1 1#1
  let main_v6 : IVec S_ 1 := (fun x v => Host.reduce IntOp.andi x v reducesTo_S2x128x500_S_d0_1_2 h_S_) main_v5 main_c_1
  let main_v7 : IVec S_ 1 := andi main_v2 main_v6
  main_v7
-- ==== Kernel.lean ====
abbrev S40000x501 : Shape := ⟨2, ![40000, 501]⟩
abbrev S1x1 : Shape := ⟨2, ![1, 1]⟩
abbrev S1 : Shape := ⟨1, ![1]⟩
abbrev S_ : Shape := ⟨0, ![]⟩
abbrev S10000 : Shape := ⟨1, ![10000]⟩
abbrev S2x128x500 : Shape := ⟨3, ![2, 128, 500]⟩
abbrev S128x1 : Shape := ⟨2, ![128, 1]⟩
abbrev S2x2x128 : Shape := ⟨3, ![2, 2, 128]⟩
abbrev S501x40000 : Shape := ⟨2, ![501, 40000]⟩
abbrev S500x2x128 : Shape := ⟨3, ![500, 2, 128]⟩
abbrev S40000x128 : Shape := ⟨2, ![40000, 128]⟩
abbrev S501x7168 : Shape := ⟨2, ![501, 7168]⟩
abbrev S1x2x128 : Shape := ⟨3, ![1, 2, 128]⟩
abbrev S7168x128 : Shape := ⟨2, ![7168, 128]⟩
abbrev S501x128 : Shape := ⟨2, ![501, 128]⟩
abbrev S1x1x128 : Shape := ⟨3, ![1, 1, 128]⟩
abbrev S1x128 : Shape := ⟨2, ![1, 128]⟩
abbrev S500x1x128 : Shape := ⟨3, ![500, 1, 128]⟩
abbrev S500x128 : Shape := ⟨2, ![500, 128]⟩
abbrev S250x128 : Shape := ⟨2, ![250, 128]⟩
abbrev S128 : Shape := ⟨1, ![128]⟩
abbrev S10000x4x128 : Shape := ⟨3, ![10000, 4, 128]⟩

abbrev nBuf : Space → Nat
  | .hbm => 15
  | .vmem => 8
  | .smem => 1
  | _ => 0

abbrev bufTy : (tb : Table) → Fin (tcTables nBuf tb) → BufTy
  | .hbm, ⟨0, _⟩ => ⟨S40000x501, .f32⟩
  | .hbm, ⟨1, _⟩ => ⟨S1x1, .f32⟩
  | .hbm, ⟨2, _⟩ => ⟨S1, .f32⟩
  | .hbm, ⟨3, _⟩ => ⟨S_, .i32⟩
  | .hbm, ⟨4, _⟩ => ⟨S10000, .i32⟩
  | .hbm, ⟨5, _⟩ => ⟨S_, .i32⟩
  | .hbm, ⟨6, _⟩ => ⟨S2x128x500, .f32⟩
  | .hbm, ⟨7, _⟩ => ⟨S2x128x500, .f32⟩
  | .hbm, ⟨8, _⟩ => ⟨S128x1, .f32⟩
  | .hbm, ⟨9, _⟩ => ⟨S2x2x128, .f32⟩
  | .hbm, ⟨10, _⟩ => ⟨S2x2x128, .f32⟩
  | .hbm, ⟨11, _⟩ => ⟨S501x40000, .f32⟩
  | .hbm, ⟨12, _⟩ => ⟨S500x2x128, .f32⟩
  | .hbm, ⟨13, _⟩ => ⟨S40000x128, .f32⟩
  | .hbm, ⟨14, _⟩ => ⟨S10000x4x128, .f32⟩
  | .local _ .vmem, ⟨0, _⟩ => ⟨S501x7168, .f32⟩
  | .local _ .vmem, ⟨1, _⟩ => ⟨S501x7168, .f32⟩
  | .local _ .vmem, ⟨2, _⟩ => ⟨S500x2x128, .f32⟩
  | .local _ .vmem, ⟨3, _⟩ => ⟨S1x2x128, .f32⟩
  | .local _ .vmem, ⟨4, _⟩ => ⟨S1x2x128, .f32⟩
  | .local _ .vmem, ⟨5, _⟩ => ⟨S7168x128, .f32⟩
  | .local _ .vmem, ⟨6, _⟩ => ⟨S7168x128, .f32⟩
  | .local _ .vmem, ⟨7, _⟩ => ⟨S501x128, .bf16⟩
  | .local _ .smem, ⟨0, _⟩ => ⟨S1, .i32⟩
  | _, _ => ⟨S40000x501, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v3 : Ref sig .tc := ⟨.hbm, 13, rfl⟩
abbrev main_v4 : Ref sig .tc := ⟨.hbm, 14, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![6], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v19 : BitVec 32) : Fin 3 → Nat :=
  let c0_15 : Index := 0#32
  let v20 : Index := Scalar.indexCast v19
  let c0_16 : Index := 0#32
  ![0, v20.toNat, 0]

def k0_chk1 (i : grid0.Coords) (v19 : BitVec 32) : Prop :=
  (∀ (k0_h1 : k0_cond1 i = 1#1), ∀ a, (k0_off1 v19) a + S500x1x128.size a ≤ S500x2x128.size a)
theorem k0_off1_inb : ∀ (i : grid0.Coords) (v19 : BitVec 32) (k0_hw1 : k0_chk1 i v19), ∀ (k0_h1 : k0_cond1 i = 1#1), ∀ a, (k0_off1 v19) a + S500x1x128.size a ≤ S500x2x128.size a := fun i v19 k0_hw1 k0_h1 => k0_hw1 k0_h1

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S501x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S7168x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S40000x501 : Shape := ⟨2, ![40000, 501]⟩
abbrev S1x1 : Shape := ⟨2, ![1, 1]⟩
abbrev S1 : Shape := ⟨1, ![1]⟩
abbrev S_ : Shape := ⟨0, ![]⟩
abbrev S10000 : Shape := ⟨1, ![10000]⟩
abbrev S2x128x500 : Shape := ⟨3, ![2, 128, 500]⟩
abbrev S128x1 : Shape := ⟨2, ![128, 1]⟩
abbrev S2x2x128 : Shape := ⟨3, ![2, 2, 128]⟩
abbrev S1x128x500 : Shape := ⟨3, ![1, 128, 500]⟩
abbrev S128x500 : Shape := ⟨2, ![128, 500]⟩
abbrev S1x2x128 : Shape := ⟨3, ![1, 2, 128]⟩
abbrev S2x128 : Shape := ⟨2, ![2, 128]⟩
abbrev S1x128 : Shape := ⟨2, ![1, 128]⟩
abbrev S128 : Shape := ⟨1, ![128]⟩
abbrev S128x250 : Shape := ⟨2, ![128, 250]⟩
abbrev S128x501 : Shape := ⟨2, ![128, 501]⟩
abbrev S501x128 : Shape := ⟨2, ![501, 128]⟩
abbrev S40000x128 : Shape := ⟨2, ![40000, 128]⟩
abbrev S10000x4x128 : Shape := ⟨3, ![10000, 4, 128]⟩

abbrev nBuf : Space → Nat
  | .hbm => 158
  | .vmem => 0
  | .smem => 0
  | _ => 0

abbrev hbmTy0_0 (i : Nat) : BufTy := match i % 128 with
  | 0 => ⟨S40000x501, .f32⟩
  | 1 => ⟨S1x1, .f32⟩
  | 2 => ⟨S1, .f32⟩
  | 3 => ⟨S_, .i32⟩
  | 4 => ⟨S10000, .i32⟩
  | 5 => ⟨S_, .i32⟩
  | 6 => ⟨S2x128x500, .f32⟩
  | 7 => ⟨S2x128x500, .f32⟩
  | 8 => ⟨S128x1, .f32⟩
  | 9 => ⟨S2x2x128, .f32⟩
  | 10 => ⟨S2x2x128, .f32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S1x128x500, .f32⟩
  | 33 => ⟨S128x500, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S1x2x128, .f32⟩
  | 56 => ⟨S2x128, .f32⟩
  | 57 => ⟨S1x128, .f32⟩
  | 58 => ⟨S128, .f32⟩
  | 59 => ⟨S128, .f32⟩
  | 60 => ⟨S128, .f32⟩
  | 61 => ⟨S_, .f32⟩
  | 62 => ⟨S128, .f32⟩
  | 63 => ⟨S128, .f32⟩
  | 64 => ⟨S_, .f32⟩
  | 65 => ⟨S128, .f32⟩
  | 66 => ⟨S128, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S1x2x128, .f32⟩
  | 89 => ⟨S2x128, .f32⟩
  | 90 => ⟨S1x128, .f32⟩
  | 91 => ⟨S128, .f32⟩
  | 92 => ⟨S128, .f32⟩
  | 93 => ⟨S128, .f32⟩
  | 94 => ⟨S_, .f32⟩
  | 95 => ⟨S128, .f32⟩
  | 96 => ⟨S128, .f32⟩
  | 97 => ⟨S_, .f32⟩
  | 98 => ⟨S128, .f32⟩
  | 99 => ⟨S128, .f32⟩
  | 100 => ⟨S128x250, .f32⟩
  | 101 => ⟨S_, .f32⟩
  | 102 => ⟨S128, .f32⟩
  | 103 => ⟨S_, .f32⟩
  | 104 => ⟨S128, .f32⟩
  | 105 => ⟨S128, .f32⟩
  | 106 => ⟨S128x1, .f32⟩
  | 107 => ⟨S128x250, .f32⟩
  | 108 => ⟨S128x250, .f32⟩
  | 109 => ⟨S128x250, .f32⟩
  | 110 => ⟨S_, .f32⟩
  | 111 => ⟨S128, .f32⟩
  | 112 => ⟨S128x1, .f32⟩
  | 113 => ⟨S128x250, .f32⟩
  | 114 => ⟨S128x250, .f32⟩
  | 115 => ⟨S128x250, .f32⟩
  | 116 => ⟨S_, .f32⟩
  | 117 => ⟨S128, .f32⟩
  | 118 => ⟨S_, .f32⟩
  | 119 => ⟨S128, .f32⟩
  | 120 => ⟨S128, .f32⟩
  | 121 => ⟨S128x1, .f32⟩
  | 122 => ⟨S128x250, .f32⟩
  | 123 => ⟨S128x250, .f32⟩
  | 124 => ⟨S128x250, .f32⟩
  | 125 => ⟨S_, .f32⟩
  | 126 => ⟨S128, .f32⟩
  | 127 => ⟨S128x1, .f32⟩
  | _ => ⟨S40000x501, .f32⟩

abbrev hbmTy0_1 (i : Nat) : BufTy := match i % 128 with
  | 0 => ⟨S128x250, .f32⟩
  | 1 => ⟨S128x250, .f32⟩
  | 2 => ⟨S128x1, .f32⟩
  | 3 => ⟨S128x250, .f32⟩
  | 4 => ⟨S128x250, .f32⟩
  | 5 => ⟨S128x1, .f32⟩
  | 6 => ⟨S128x250, .f32⟩
  | 7 => ⟨S128x250, .f32⟩
  | 8 => ⟨S128x1, .f32⟩
  | 9 => ⟨S128x1, .f32⟩
  | 10 => ⟨S128x1, .f32⟩
  | 11 => ⟨S_, .f32⟩
  | 12 => ⟨S128x1, .f32⟩
  | 13 => ⟨S128x1, .f32⟩
  | 14 => ⟨S_, .f32⟩
  | 15 => ⟨S128x1, .f32⟩
  | 16 => ⟨S128x1, .f32⟩
  | 17 => ⟨S_, .f32⟩
  | 18 => ⟨S128x1, .f32⟩
  | 19 => ⟨S128x1, .f32⟩
  | 20 => ⟨S128x501, .f32⟩
  | 21 => ⟨S501x128, .f32⟩
  | 22 => ⟨S40000x128, .f32⟩
  | 23 => ⟨S10000x4x128, .f32⟩
  | 24 => ⟨S_, .f32⟩
  | 25 => ⟨S10000x4x128, .f32⟩
  | 26 => ⟨S10000x4x128, .f32⟩
  | 27 => ⟨S_, .f32⟩
  | 28 => ⟨S10000x4x128, .f32⟩
  | 29 => ⟨S10000x4x128, .f32⟩
  | _ => ⟨S40000x501, .f32⟩

abbrev hbmTy (i : Nat) : BufTy := match i / 128 with
  | 0 => hbmTy0_0 i
  | 1 => hbmTy0_1 i
  | _ => ⟨S40000x501, .f32⟩

abbrev bufTy : (tb : Table) → Fin (tcTables nBuf tb) → BufTy
  | .hbm, ⟨i, _⟩ => hbmTy i
  | _, _ => ⟨S40000x501, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_c_0 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_c_2 : Ref sig .tc := ⟨.hbm, 17, rfl⟩
abbrev main_v3 : Ref sig .tc := ⟨.hbm, 18, rfl⟩
abbrev main_c_3 : Ref sig .tc := ⟨.hbm, 19, rfl⟩
abbrev main_c_4 : Ref sig .tc := ⟨.hbm, 20, rfl⟩
abbrev main_v4 : Ref sig .tc := ⟨.hbm, 21, rfl⟩
abbrev main_c_5 : Ref sig .tc := ⟨.hbm, 22, rfl⟩
abbrev main_v5 : Ref sig .tc := ⟨.hbm, 23, rfl⟩
abbrev main_c_6 : Ref sig .tc := ⟨.hbm, 24, rfl⟩
abbrev main_c_7 : Ref sig .tc := ⟨.hbm, 25, rfl⟩
abbrev main_v6 : Ref sig .tc := ⟨.hbm, 26, rfl⟩
abbrev main_c_8 : Ref sig .tc := ⟨.hbm, 27, rfl⟩
abbrev main_c_9 : Ref sig .tc := ⟨.hbm, 28, rfl⟩
abbrev main_v7 : Ref sig .tc := ⟨.hbm, 29, rfl⟩
abbrev main_c_10 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_11 : Ref sig .tc := ⟨.hbm, 34, rfl⟩
abbrev main_v11 : Ref sig .tc := ⟨.hbm, 35, rfl⟩
abbrev main_c_12 : Ref sig .tc := ⟨.hbm, 36, rfl⟩
abbrev main_v12 : Ref sig .tc := ⟨.hbm, 37, rfl⟩
abbrev main_v13 : Ref sig .tc := ⟨.hbm, 38, rfl⟩
abbrev main_c_13 : Ref sig .tc := ⟨.hbm, 39, rfl⟩
abbrev main_c_14 : Ref sig .tc := ⟨.hbm, 40, rfl⟩
abbrev main_v14 : Ref sig .tc := ⟨.hbm, 41, rfl⟩
abbrev main_c_15 : Ref sig .tc := ⟨.hbm, 42, rfl⟩
abbrev main_c_16 : Ref sig .tc := ⟨.hbm, 43, rfl⟩
abbrev main_v15 : Ref sig .tc := ⟨.hbm, 44, rfl⟩
abbrev main_c_17 : Ref sig .tc := ⟨.hbm, 45, rfl⟩
abbrev main_v16 : Ref sig .tc := ⟨.hbm, 46, rfl⟩
abbrev main_c_18 : Ref sig .tc := ⟨.hbm, 47, rfl⟩
abbrev main_c_19 : Ref sig .tc := ⟨.hbm, 48, rfl⟩
abbrev main_v17 : Ref sig .tc := ⟨.hbm, 49, rfl⟩
abbrev main_c_20 : Ref sig .tc := ⟨.hbm, 50, rfl⟩
abbrev main_c_21 : Ref sig .tc := ⟨.hbm, 51, rfl⟩
abbrev main_v18 : Ref sig .tc := ⟨.hbm, 52, rfl⟩
abbrev main_c_22 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst : Ref sig .tc := ⟨.hbm, 61, rfl⟩
abbrev main_v26 : Ref sig .tc := ⟨.hbm, 62, rfl⟩
abbrev main_v27 : Ref sig .tc := ⟨.hbm, 63, rfl⟩
abbrev main_cst_23 : Ref sig .tc := ⟨.hbm, 64, rfl⟩
abbrev main_v28 : Ref sig .tc := ⟨.hbm, 65, rfl⟩
abbrev main_v29 : Ref sig .tc := ⟨.hbm, 66, rfl⟩
abbrev main_c_24 : Ref sig .tc := ⟨.hbm, 67, rfl⟩
abbrev main_v30 : Ref sig .tc := ⟨.hbm, 68, rfl⟩
abbrev main_c_25 : Ref sig .tc := ⟨.hbm, 69, rfl⟩
abbrev main_v31 : Ref sig .tc := ⟨.hbm, 70, rfl⟩
abbrev main_v32 : Ref sig .tc := ⟨.hbm, 71, rfl⟩
abbrev main_c_26 : Ref sig .tc := ⟨.hbm, 72, rfl⟩
abbrev main_c_27 : Ref sig .tc := ⟨.hbm, 73, rfl⟩
abbrev main_v33 : Ref sig .tc := ⟨.hbm, 74, rfl⟩
abbrev main_c_28 : Ref sig .tc := ⟨.hbm, 75, rfl⟩
abbrev main_c_29 : Ref sig .tc := ⟨.hbm, 76, rfl⟩
abbrev main_v34 : Ref sig .tc := ⟨.hbm, 77, rfl⟩
abbrev main_c_30 : Ref sig .tc := ⟨.hbm, 78, rfl⟩
abbrev main_v35 : Ref sig .tc := ⟨.hbm, 79, rfl⟩
abbrev main_c_31 : Ref sig .tc := ⟨.hbm, 80, rfl⟩
abbrev main_c_32 : Ref sig .tc := ⟨.hbm, 81, rfl⟩
abbrev main_v36 : Ref sig .tc := ⟨.hbm, 82, rfl⟩
abbrev main_c_33 : Ref sig .tc := ⟨.hbm, 83, rfl⟩
abbrev main_c_34 : Ref sig .tc := ⟨.hbm, 84, rfl⟩
abbrev main_v37 : Ref sig .tc := ⟨.hbm, 85, rfl⟩
abbrev main_c_35 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_36 : Ref sig .tc := ⟨.hbm, 94, rfl⟩
abbrev main_v45 : Ref sig .tc := ⟨.hbm, 95, rfl⟩
abbrev main_v46 : Ref sig .tc := ⟨.hbm, 96, rfl⟩
abbrev main_cst_37 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_38 : Ref sig .tc := ⟨.hbm, 101, rfl⟩
abbrev main_v50 : Ref sig .tc := ⟨.hbm, 102, rfl⟩
abbrev main_cst_39 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_40 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_41 : Ref sig .tc := ⟨.hbm, 116, rfl⟩
abbrev main_v62 : Ref sig .tc := ⟨.hbm, 117, rfl⟩
abbrev main_cst_42 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_cst_43 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_44 : Ref sig .tc := ⟨.hbm, 139, rfl⟩
abbrev main_v82 : Ref sig .tc := ⟨.hbm, 140, rfl⟩
abbrev main_v83 : Ref sig .tc := ⟨.hbm, 141, rfl⟩
abbrev main_cst_45 : Ref sig .tc := ⟨.hbm, 142, rfl⟩
abbrev main_v84 : Ref sig .tc := ⟨.hbm, 143, rfl⟩
abbrev main_v85 : Ref sig .tc := ⟨.hbm, 144, rfl⟩
abbrev main_cst_46 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_47 : Ref sig .tc := ⟨.hbm, 152, rfl⟩
abbrev main_v92 : Ref sig .tc := ⟨.hbm, 153, rfl⟩
abbrev main_v93 : Ref sig .tc := ⟨.hbm, 154, rfl⟩
abbrev main_cst_48 : Ref sig .tc := ⟨.hbm, 155, rfl⟩
abbrev main_v94 : Ref sig .tc := ⟨.hbm, 156, rfl⟩
abbrev main_v95 : Ref sig .tc := ⟨.hbm, 157, rfl⟩

abbrev nD : Nat := 1
abbrev τ : Topo := Topo.v7x

variable {F : FTy → Type} [FloatOps F]
-- ==== Proof.RangeStep.lean ====
/- What the precondition on the time step says, in words the runs use: it is 0 or 1. -/
module

public import proofs.«01_k».proof.Defs
public import proofs.«01_k».proof.Proof.Gen.Pre_t_in_range
public import Idealize.ShloMosaic.Lib.Decide
public import Idealize.ShloMosaic.Lib.Affine
public import Idealize.ShloMosaic.Lib.ReduceAll
public import Idealize.ShloMosaic.Lib.IdealHost

@[expose] public section

noncomputable section

namespace Cert.Range

open Idealize.ShloMosaic Idealize.SL.Sem

/-- A word that is, read signed, at least zero and below two is zero or one. -/
theorem word_zero_or_one {w : BitVec 32} (h : IntOp.andi (IntOp.cmpi .sge w 0#32) (IntOp.cmpi .slt w 2#32) = 1#1) :
    w = 0#32 ∨ w = 1#32 := by
  obtain ⟨h0, h1⟩ := IntOp.andi_eq_one.1 h
  rw [IntOp.cmpi_sge] at h0
  rw [IntOp.cmpi_slt] at h1
  have e2 : (2#32 : BitVec 32).toInt = 2 := by decide
  have e0 : (0#32 : BitVec 32).toInt = 0 := by decide
  rw [e2] at h1
  rw [e0] at h0
  have hw : w.toInt = 0 ∨ w.toInt = 1 := by omega
  rcases hw with hw | hw
  · exact .inl (BitVec.eq_of_toInt_eq (hw.trans e0.symm))
  · exact .inr (BitVec.eq_of_toInt_eq (hw.trans (by decide)))

/-- The range precondition on the time step's word. -/
theorem step_of_range {F : FTy → Type} [FloatOps F] {a0 a1 a2 a3 a4 a5 a6 a7 a8 a9 a10}
    (h : Cert.Pre_t_in_range.fn (F := F) a0 a1 a2 a3 a4 a5 a6 a7 a8 a9 a10 = fun _ => 1#1) :
    a3 (fun a => a.elim0) = 0#32 ∨ a3 (fun a => a.elim0) = 1#32 :=
  word_zero_or_one (congrFun h fun a => a.elim0)

end Cert.Range

end
-- ==== Proof.KernelIdealSetup.lean ====
/-
  What the runs of `KernelIdeal` are stated over.

  `@main` is three host lines (two transposes and a reshape of the time step), one pallas_call on a grid of six
  points, and one reshape of its result. This file has: the memory the call finds (`entry`), the host lines around it,
  the one word the call prefetches (the time step) and the fact that it is 0 or 1, the blocks of the five windows, and
  the kernel body's two Hoare triples: at the first point it also fills the scratch with the weights, at the later
  points it reads the weights the first point left there.

  The first input's last block and the result's last block overhang their arrays: 6 blocks of 7168 columns (rows) over
  40000 of them.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The memory the call finds, and the host lines around it -/

/-- Device `c`'s buffers when the call is entered: the launch memory after the three host lines. -/
abbrev entry (c : Dev nD) : Valuation τ sig (Elt F) := StableHlo.after (List.flatten [hostOps0]) (fun b => m (c, b))
/-- The same, read at a buffer's reference. -/
abbrev entryAt (c : Dev nD) (b : Ref sig .tc) : Buf (Elt F) ((c : Thread nD τ).loc b) := entry m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- `@main` reduces to the call followed by the last host line. -/
theorem main_around (𝒱₀ : Variants) : Pipeline.HMainPK (Ix := Unit) (Name := ℕ) (U := UR sig nD τ) (Lvl := ℕ) pcfgs 0 defs₀ 𝒱₀ m (main (F := F)) (entryAt m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The last host line touches no prefetched table. -/
theorem tail_sub : ∀ ops ∈ ([hostOps1] : List (List (HloOp τ sig (Elt F)))), ∀ op ∈ ops,
    op.bufs ⊆ Pipeline.tailRefs sig pre0 spec0 := by
  intro ops hops op hop
  obtain rfl := List.mem_singleton.mp hops
  refine Pipeline.sub_tailRefs pre0 spec0 op ((List.forall_iff_forall_mem.mp hostOps1_sub) op hop) ?_
  obtain rfl := List.mem_singleton.mp hop
  intro j
  fin_cases j
  simp only [StableHlo.reshape_bufs, Finset.mem_insert, Finset.mem_singleton, not_or]
  exact ⟨StableHlo.devRef_ne_of_ne (by decide), StableHlo.devRef_ne_of_ne (by decide)⟩
/-- It allocates nothing. -/
theorem tail_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop
/-- It writes none of the call's arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  intro w
  fin_cases w <;> simp only [StableHlo.reshape_writes, Finset.mem_singleton] <;> exact StableHlo.devRef_ne_of_ne (by decide)
/-- It writes the program's result and nothing else. -/
theorem tail_writes : ∀ ops ∈ ([hostOps1] : List (List (HloOp τ sig (Elt F)))), ∀ op ∈ ops,
    ∀ b : Ref sig .tc, Proc.devRef .tc b ∈ op.writes → b ∈ ({main_v4} : Finset (Ref sig .tc)) := by
  intro ops hops op hop b hb
  obtain rfl := List.mem_singleton.mp hops
  obtain rfl := List.mem_singleton.mp hop
  rw [StableHlo.reshape_writes, Finset.mem_singleton] at hb
  rw [Finset.mem_singleton]
  by_contra hne
  exact StableHlo.devRef_ne_of_ne hne hb

/-- A buffer that is none of the three host results is found as launched. -/
theorem entryAt_of_ne (c : Dev nD) (b : Ref sig .tc) (h0 : b ≠ main_v0) (h1 : b ≠ main_v1) (h2 : b ≠ main_v2) :
    entryAt m c b = m ((c : Thread nD τ).loc b) :=
  StableHlo.after_of_forall_not_mem (b := Proc.devRef .tc b) _ _ (List.forall_iff_forall_mem.mp (by
    simp only [hostOps0, List.flatten_cons, List.flatten_nil, List.append_nil, List.Forall,
      StableHlo.unary_writes, StableHlo.reshape_writes, Finset.mem_singleton]
    exact ⟨StableHlo.devRef_ne_of_ne h0, StableHlo.devRef_ne_of_ne h1, StableHlo.devRef_ne_of_ne h2⟩))

/-! ## The prefetched word -/

/-- The prefetched table when the call is entered: one word, the time step. -/
def tbl : pre0.Contents (Elt F) := fun j => entryAt m (0 : Dev nD) (pre0.ref j)
/-- On every device it is that (there is one device). -/
theorem entry_pre (c : Dev nD) (j : Fin 1) : entryAt m c (pre0.ref j) = tbl m j := by
  obtain rfl : c = 0 := Subsingleton.elim _ _; rfl
/-- The call's windows lie inside their arrays at that word. -/
abbrev Ok : Prop := ok0 (F := F) (tbl m)
/-- The call at that word. -/
abbrev adm (hO : Ok m) : (pcfg0 (F := F)).Adm := ⟨tbl m, hO⟩
abbrev cfgM (hO : Ok m) : Pipeline.Cfg sig Λ₀ := cfg0 (adm m hO)

/-- The table as the body is handed it. -/
abbrev tbM : Memref sig .tc .smem S1 .i32 := Memref.whole main_v2
/-- A table's contents on core `c`, and the table held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- What the call hands the body of its tables. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The scratch, a whole buffer. -/
abbrev scM : Memref sig .tc .vmem S501x128 .bf16 := Memref.whole cc0_scratch0
/-- What the call hands the body beside the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The word the body reads from the table. -/
abbrev wordOf (c : Dev nD) (xt : TbBuf (F := F) c tbM) : BitVec 32 :=
  tbM.view.readAt (Elt F) (Rect.unit (s := S1) ![0] S1.size inb_S1_S1_0).toLoadRect xt (Shape.Idx.first (numel1_S1.symm ▸ Nat.one_pos))

/-! ## The body's branch -/

/-- The body fills the scratch at the first point only. -/
theorem first_iff : ∀ t : Fin grid0.N, k0_cond1 (grid0.coords t) = 1#1 ↔ t.val = 0 :=
  fun t => by
    have ht : t.val < 6 := Nat.lt_of_lt_of_eq t.isLt N_0
    have e0 : (grid0.coords t 0).val = t.val / 1 % 6 := Pipeline.Grid.coords_val t 0 (by decide) rfl
    have h : k0_cond1 (grid0.coords t) = 1#1 ↔ t.val % 6 = 0 := by
      simp only [k0_cond1, e0]
      word_cmp
    rw [h, Nat.mod_eq_of_lt ht]

/-! ## The body's triples -/

/-- The weights from the rows of the three small inputs: what the body stores in the scratch. -/
def weightsOf (c : Dev nD) (i : grid0.Coords) (hc : k0_cond1 i = 1#1) (x1 : Vec F S500x2x128 .f32) (x2 x3 : Vec F S1x2x128 .f32) (v : BitVec 32) (hv : k0_chk1 i v) : Vec F S501x128 .bf16 :=
  k0_pay1 (k0_pay3 (fun j => x2 ((Rect.unit (s := S1x2x128) ![0, 0, 0] S1x1x128.size inb_S1x2x128_S1x1x128_0_0_0).toLoadRect.idx j))
    (fun j => x3 ((Rect.unit (s := S1x2x128) ![0, 0, 0] S1x1x128.size inb_S1x2x128_S1x1x128_0_0_0).toLoadRect.idx j))
    (fun j => x1 ((Rect.unit (s := S500x2x128) (k0_off1 v) S500x1x128.size (k0_off1_inb i v hv hc)).toLoadRect.idx j)))

end Cert.KernelIdeal.Hand

end
-- ==== Proof.KernelIdealBody.lean ====
/-
  The Hoare triples of `KernelIdeal`'s kernel body, on any whole staging buffers: what it leaves in the result's
  staging buffer and in the scratch, at the first grid point and at the later ones.
-/
module

public import proofs.«01_k».proof.Proof.KernelIdealSetup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A rectangle of the whole shape's size at the origin places each index at itself. -/
theorem unit_zero_idx {s : Shape} {off : Fin s.rank → Nat} (h : off = fun _ => 0) (inb : ∀ a, off a + s.size a ≤ s.size a)
    (x : s.Idx) : (Rect.unit (s := s) off s.size inb).emb x = x := by
  subst h
  funext a
  apply Fin.ext
  show 0 + 1 * (x a : Nat) = x a
  omega

/-- A load through a rectangle reads the contents at its indices. -/
theorem load_part {sp : Space} {s : Shape} {e : EltTy} {M : Memref sig .tc sp s e} (hM : M.IsWhole) (r : LoadRect s)
    (X : s.Idx → Elt F e) : M.view.readAt (Elt F) r (hM.unread X) = fun j => X (r.idx j) := by
  funext j
  rw [View.readAt_apply, hM.read_unread]

/-- A load of a whole buffer reads its contents. -/
theorem load_whole {sp : Space} {s : Shape} {e : EltTy} {M : Memref sig .tc sp s e} (hM : M.IsWhole) {off : Fin s.rank → Nat} (h : off = fun _ => 0) (inb : ∀ a, off a + s.size a ≤ s.size a)
    (X : s.Idx → Elt F e) : M.view.readAt (Elt F) (Rect.unit (s := s) off s.size inb).toLoadRect (hM.unread X) = X := by
  funext x
  rw [View.readAt_apply, hM.read_unread]
  exact congrArg X (unit_zero_idx h inb x)

/-- A store of a whole buffer leaves what was stored. -/
theorem store_whole {sp : Space} {s : Shape} {e : EltTy} (v : View sig .tc sp s e) {off : Fin s.rank → Nat} (h : off = fun _ => 0) (inb : ∀ a, off a + s.size a ≤ s.size a)
    (f : v.ty.Contents (Elt F)) (X : s.Idx → Elt F e) :
    v.read (Elt F) (v.writes (Elt F) f [⟨Rect.unit (s := s) off s.size inb, X⟩]) = X := by
  funext x
  have := View.read_writes_cons_emb v f (Rect.unit (s := s) off s.size inb) X [] x
  rwa [unit_zero_idx h inb x] at this

/-- A load of a whole buffer after a store of it reads what was stored. -/
theorem read_stored_whole {sp : Space} {s : Shape} {e : EltTy} (v : View sig .tc sp s e) {off : Fin s.rank → Nat} (h : off = fun _ => 0) (inb : ∀ a, off a + s.size a ≤ s.size a)
    (X : s.Idx → Elt F e) :
    v.readCov [(⟨Rect.unit (s := s) off s.size inb, X⟩ : View.Piece (Elt F) s e)] (Rect.unit (s := s) off s.size inb).toLoadRect = X := by
  funext x
  have := congrFun (store_whole v h inb (View.junk v) X) x
  exact (congrArg _ (unit_zero_idx h inb x)).trans this

theorem origin2 : (![0, 0] : Fin 2 → Nat) = fun _ => 0 := by decide

set_option maxHeartbeats 1000000 in
/-- At a later point: the scratch holds the weights `wf`; the result's staging buffer ends with the clamped product of
    the staged input block and `wf`, and everything else as it was. -/
theorem body_later (c : Dev nD) (i : grid0.Coords) (arg2 : Memref sig .tc .vmem S501x7168 .f32) (harg2 : arg2.IsWhole) (arg3 : Memref sig .tc .vmem S500x2x128 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S7168x128 .f32) (harg6 : arg6.IsWhole) (arg7 : Memref sig .tc .vmem S501x128 .bf16) (harg7 : arg7.IsWhole) (hc : ¬k0_cond1 i = 1#1)
    (x0 : Vec F S501x7168 .f32) (x1 : Vec F S500x2x128 .f32) (x2 : Vec F S1x2x128 .f32) (x3 : Vec F S1x2x128 .f32) (xt : TbBuf (F := F) c tbM) (wf : Vec F S501x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare wf ∗ tbPt c tbM xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 x0 wf) ∗ owns (c : Thread nD τ) arg7 fullShare wf ∗ tbPt c tbM xt) -∗ K ⟨⟩))
      ⊢ wp frame (wpE (defs₀ (F := F)) Variants.none c none) E (cc0__tel_kernel i tbM (Memref.isWhole_whole _) arg2 harg2 arg3 harg3 arg4 harg4 arg5 harg5 arg6 harg6 arg7 harg7) K := by
  simp only [cc0__tel_kernel_eq_skeleton]; unfold cc0__tel_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, Hk⟩
  obtain rfl := harg2.eq_unread hf0; obtain rfl := harg3.eq_unread hf1; obtain rfl := harg4.eq_unread hf2; obtain rfl := harg5.eq_unread hf3; obtain rfl := harg7.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [store_whole _ origin2]
    exact congr (congrArg k0_pay2 (load_whole harg2 origin2 _ _)) (load_whole harg7 origin2 _ _)
  isplitl [HS0]
  · iexists _; isplitr; · ipureintro; exact harg7.read_unread _
    iexact HS0
  iexact HT0

set_option maxHeartbeats 1000000 in
/-- At the first point: the scratch ends with the weights, and the result's staging buffer with the clamped product of
    the staged input block and them. -/
theorem body_first (c : Dev nD) (i : grid0.Coords) (arg2 : Memref sig .tc .vmem S501x7168 .f32) (harg2 : arg2.IsWhole) (arg3 : Memref sig .tc .vmem S500x2x128 .f32) (harg3 : arg3.IsWhole) (arg4 : Memref sig .tc .vmem S1x2x128 .f32) (harg4 : arg4.IsWhole) (arg5 : Memref sig .tc .vmem S1x2x128 .f32) (harg5 : arg5.IsWhole) (arg6 : Memref sig .tc .vmem S7168x128 .f32) (harg6 : arg6.IsWhole) (arg7 : Memref sig .tc .vmem S501x128 .bf16) (harg7 : arg7.IsWhole) (hc : k0_cond1 i = 1#1)
    (x0 : Vec F S501x7168 .f32) (x1 : Vec F S500x2x128 .f32) (x2 : Vec F S1x2x128 .f32) (x3 : Vec F S1x2x128 .f32) (xt : TbBuf (F := F) c tbM) (hv : k0_chk1 i (wordOf c xt))
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ tbPt c tbM xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 x0 (weightsOf c i hc x1 x2 x3 _ hv)) ∗ owns (c : Thread nD τ) arg7 fullShare (weightsOf c i hc x1 x2 x3 _ hv) ∗ tbPt c tbM xt) -∗ K ⟨⟩))
      ⊢ wp frame (wpE (defs₀ (F := F)) Variants.none c none) E (cc0__tel_kernel i tbM (Memref.isWhole_whole _) arg2 harg2 arg3 harg3 arg4 harg4 arg5 harg5 arg6 harg6 arg7 harg7) K := by
  simp only [cc0__tel_kernel_eq_skeleton]; unfold cc0__tel_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, Hk⟩
  obtain rfl := harg2.eq_unread hf0; obtain rfl := harg3.eq_unread hf1; obtain rfl := harg4.eq_unread hf2; obtain rfl := harg5.eq_unread hf3
  sl_exec (disch := first | sl_exact hc | sl_exact hv)
  sl_step
  have scratch_eq : k0_pay1 (body_first.sl.r_1 c i arg3 harg3 arg4 harg4 arg5 harg5 hc x1 x2 x3 xt hv) = weightsOf c i hc x1 x2 x3 (wordOf c xt) hv := by
    unfold body_first.sl.r_1 weightsOf
    refine congrArg k0_pay1 ?_
    unfold body_first.sl.r
    exact congr (congr (congrArg k0_pay3 (load_part harg4 _ _)) (load_part harg5 _ _)) (load_part harg3 _ _)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    unfold body_first.sl.v6 body_first.sl.HS0_1
    rw [store_whole arg6.view (s := S7168x128) origin2]
    refine congr (congrArg k0_pay2 (load_whole harg2 (s := S501x7168) origin2 _ _)) ?_
    refine (read_stored_whole arg7.view (s := S501x128) origin2 _ _).trans ?_
    exact scratch_eq
  isplitl [HS0]
  · iexists _; isplitr
    swap; · iexact HS0
    ipureintro
    unfold body_first.sl.HS0_1
    rw [store_whole arg7.view (s := S501x128) origin2]
    exact scratch_eq
  iexact HT0

end Cert.KernelIdeal.Hand

end
-- ==== Proof.KernelIdealPoints.lean ====
/-
  The grid's points in `KernelIdeal`: the time step read from the prefetched table and what its range gives, which
  windows are fetched or written back where, the blocks of the windows, and the body as the pipeline calls it.
-/
module

public import proofs.«01_k».proof.Proof.KernelIdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The time step -/

/-- The time step as launched: the fourth argument's only element. -/
def timeStep : BitVec 32 := (m (((0 : Dev nD) : Thread nD τ).loc main_arg3) : Vec F S_ .i32) (fun a => a.elim0)

/-- The table holds it. -/
theorem tbl_eq : (tbl m 0 : Vec F S1 .i32) = fun _ => timeStep m := by
  have h : entryAt m (0 : Dev nD) main_v2 = (shapeCast S1 (m (((0 : Dev nD) : Thread nD τ).loc main_arg3) : Vec F S_ .i32) shapeCasts_S_S1 : Vec F S1 .i32) := by
    simp only [entryAt, entry, hostOps0, List.flatten_cons, List.flatten_nil, List.append_nil, StableHlo.after_cons, StableHlo.after_nil]
    rw [StableHlo.reshape_result, StableHlo.unary_result_ne, StableHlo.unary_result_ne]
    · rfl
    · decide
    · decide
  refine h.trans (funext fun j => ?_)
  exact congrArg (m (((0 : Dev nD) : Thread nD τ).loc main_arg3) : Vec F S_ .i32) (funext fun a => a.elim0)

/-- The index maps of the two table-read windows read it. -/
theorem tbl_at : (tbl m).at 0 (Rect.unit (s := S1) ![0] S1.size inb_S1_S1_0) numel1_S1 = timeStep m :=
  congrFun (tbl_eq m) _
/-- The body reads it. -/
theorem wordOf_tbl (c : Dev nD) : wordOf c (tbl m 0) = timeStep m := congrFun (tbl_eq m) _

/-- The time step is one of the two rows the three stacked inputs have. -/
def InRange : Prop := timeStep m = 0#32 ∨ timeStep m = 1#32

variable {m}

/-- Then the two windows that read the table lie inside their arrays. -/
theorem ok_of_range (h : InRange m) : Ok m := by
  have key : ∀ w : BitVec 32, (w = 0#32 ∨ w = 1#32) → ∀ a : Fin 3, ((![w.toNat, (0#32 : BitVec 32).toNat, (0#32 : BitVec 32).toNat] : Fin 3 → Nat) a + 1) * S1x2x128.size a ≤ S2x2x128.size a := by
    rintro w (rfl | rfl) <;> decide
  refine ⟨fun i => ⟨fun a => ?_, .inl rfl⟩, fun i => ⟨fun a => ?_, .inl rfl⟩⟩
  · have := key _ h a
    rw [← tbl_at m] at this
    exact this
  · have := key _ h a
    rw [← tbl_at m] at this
    exact this

/-- And the body's load of that row of the stacked weights is inside its buffer. -/
theorem chk_of_range (h : InRange m) (c : Dev nD) (i : grid0.Coords) : k0_chk1 i (wordOf c (tbl m 0)) := by
  have key : ∀ w : BitVec 32, (w = 0#32 ∨ w = 1#32) → ∀ a : Fin 3, (k0_off1 w) a + S500x1x128.size a ≤ S500x2x128.size a := by
    rintro w (rfl | rfl) <;> decide
  rw [wordOf_tbl]
  exact fun _ => key _ h

variable (m)

/-! ## The windows' schedules -/

/-- The transposed input is fetched at every point. -/
theorem fetch_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 1 (fun _ => rfl) (by decide)) (P := 1) (by decide) t).mpr (Nat.mod_one _) : ∀ t : Fin grid0.N, Pipeline.Window.fetchOf grid0 false cc0_transform_0 t = true)
/-- The result is written back at every point. -/
theorem flush_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The body as the pipeline calls it at point `t`: on each window's current staging buffer. -/
abbrev bodyAt (a : (pcfg0 (F := F)).Adm) (t : Fin (cfg0 a).N) : Prog (TpuEff nD τ sig (Elt F) Λ₀ .tc) PUnit :=
  cc0__tel_kernel (grid0.coords t) tbM (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) scM (Memref.isWhole_whole _)

/-- The body table's row is that. -/
theorem body_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- Window `w`'s block of its array at point `t`: the part the array has. -/
abbrev blockAt (hO : Ok m) (c : Dev nD) (w : Fin 5) (t : Fin (cfgM m hO).N) :
    (((cfgM m hO).win w).xblock ((cfgM m hO).grid.coords t)).Idx → Elt F ((cfgM m hO).win w).elt :=
  (((cfgM m hO).win w).blk t).view.read (Elt F) (entryAt m c (Pipeline.arrRef spec0 w))

end Cert.KernelIdeal.Hand

end
-- ==== Proof.KernelIdealFrame.lean ====
/-
  `KernelIdeal` runs, at any float values: for a time step in range every weakly fair execution ends, the arguments are
  unchanged and every semaphore counter is zero. Of the result nothing is said here.
-/
module

public import proofs.«01_k».proof.Proof.KernelIdealPoints

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

namespace Frame

/-! ## What each window's buffer holds

The inputs' buffers hold their blocks; the scratch, carried in the invariant, and the result's buffer hold something. -/

/-- The transposed input's buffer on its rows and columns inside the array: the block; past the array's end anything. -/
abbrev filled0 (hO : Ok m) (c : Dev nD) (t : Fin (cfgM m hO).N) : Vec F S501x7168 .f32 :=
  ((cfgM m hO).win 0).fill ((cfgM m hO).grid.coords t) (Pipeline.Dat.unnamed (cfg := cfgM m hO) 0 t) (blockAt m hO c 0 t)

/-- The proof data of the run. -/
def dats (hO : Ok m) (p : Fin 1) (c : Dev nD) : Dat τ (Elt F) Unit ℕ (UR sig nD τ) ℕ (Pipeline.pin (pcfgs (F := F)) (fun _ => adm m hO) p) c where
  A w := entryAt m c (Pipeline.arrRef spec0 w)
  after w t := match w with
    | ⟨0, _⟩ => filled0 m hO c t
    | ⟨1, _⟩ => blockAt m hO c 1 t
    | ⟨2, _⟩ => blockAt m hO c 2 t
    | ⟨3, _⟩ => blockAt m hO c 3 t
    | ⟨4, h⟩ => Pipeline.Dat.unnamed (cfg := cfgM m hO) ⟨4, h⟩ t
    | ⟨_ + 5, h⟩ => absurd h (Nat.not_lt.2 (Nat.le_add_left _ _))
  Φ _ := iprop(Pipeline.ΦA spec0 c ∗ Pipeline.ΦT pre0 (tbl m) c)
  q _ := fullShare
  owed _ := 0

/-- The window whose contents the run says nothing of: the result's. -/
abbrev forgets : Fin 5 → Bool := fun | 0 => false | 1 => false | 2 => false | 3 => false | 4 => true | ⟨_ + 5, h⟩ => absurd h (Nat.not_lt.2 (Nat.le_add_left _ _))

theorem A_eq (hO : Ok m) (c : Dev nD) (w : Fin 5) : (dats m hO 0 c).A w = entryAt m c (Pipeline.arrRef spec0 w) := by dsimp only [dats]
theorem after_0 (hO : Ok m) (c : Dev nD) (t : Fin (cfgM m hO).N) : (dats m hO 0 c).after 0 t = filled0 m hO c t := by dsimp only [dats]; try rfl
theorem after_1 (hO : Ok m) (c : Dev nD) (t : Fin (cfgM m hO).N) : (dats m hO 0 c).after 1 t = blockAt m hO c 1 t := by dsimp only [dats]; try rfl
theorem after_2 (hO : Ok m) (c : Dev nD) (t : Fin (cfgM m hO).N) : (dats m hO 0 c).after 2 t = blockAt m hO c 2 t := by dsimp only [dats]; try rfl
theorem after_3 (hO : Ok m) (c : Dev nD) (t : Fin (cfgM m hO).N) : (dats m hO 0 c).after 3 t = blockAt m hO c 3 t := by dsimp only [dats]; try rfl

/-- What the body finds in the inputs' buffers: their blocks, the first filled out past the array's end. -/
theorem before_0 (hO : Ok m) (c : Dev nD) (t : Fin (cfgM m hO).N) (d) :
    (dats m hO 0 c).before 0 t d = ((cfgM m hO).win 0).fill ((cfgM m hO).grid.coords t) d (blockAt m hO c 0 t) := by
  unfold Dat.before; rw [if_pos (fetch_0 (adm m hO) t)]; rfl
theorem before_1 (hO : Ok m) (c : Dev nD) (t : Fin (cfgM m hO).N) (d) : (dats m hO 0 c).before 1 t d = blockAt m hO c 1 t :=
  ((dats m hO 0 c).before_in_eq_fetched 1 rfl (fun _ => rfl) (fun _ _ _ => rfl) (fun t => by rw [after_1]; unfold Dat.blockOf; rw [A_eq]; try rfl) t d).trans
    (by unfold Dat.fetched Dat.blockOf; rw [A_eq]; try rfl)
theorem before_2 (hO : Ok m) (c : Dev nD) (t : Fin (cfgM m hO).N) (d) : (dats m hO 0 c).before 2 t d = blockAt m hO c 2 t :=
  ((dats m hO 0 c).before_in_eq_fetched 2 rfl (fun _ => rfl) (fun _ _ _ => rfl) (fun t => by rw [after_2]; unfold Dat.blockOf; rw [A_eq]; try rfl) t d).trans
    (by unfold Dat.fetched Dat.blockOf; rw [A_eq]; try rfl)
theorem before_3 (hO : Ok m) (c : Dev nD) (t : Fin (cfgM m hO).N) (d) : (dats m hO 0 c).before 3 t d = blockAt m hO c 3 t :=
  ((dats m hO 0 c).before_in_eq_fetched 3 rfl (fun _ => rfl) (fun _ _ _ => rfl) (fun t => by rw [after_3]; unfold Dat.blockOf; rw [A_eq]; try rfl) t d).trans
    (by unfold Dat.fetched Dat.blockOf; rw [A_eq]; try rfl)

/-- The body keeps this at every point: by the first point's triple or the later points'. -/
theorem body_obligation (hR : InRange m) (c : Dev nD) :
    BodyObligationLoose (dats m (ok_of_range hR) 0 c) (defs₀ (F := F)) Variants.none () Set.univ forgets := fun t => by
  rw [bigSep_W0, bigSep_W0, body_row m (ok_of_range hR)]
  simp only [forgets]
  rw [show (dats m (ok_of_range hR) 0 c).owesAt () t.succ = (dats m (ok_of_range hR) 0 c).owesAt () t.castSucc from rfl,
    show (dats m (ok_of_range hR) 0 c).Φ t.succ = iprop(Pipeline.ΦA spec0 c ∗ Pipeline.ΦT pre0 (tbl m) c) from rfl,
    show (dats m (ok_of_range hR) 0 c).Φ t.castSucc = iprop(Pipeline.ΦA spec0 c ∗ Pipeline.ΦT pre0 (tbl m) c) from rfl, PhiT_eq, PhiA_eq]
  rw [after_1, after_2, after_3]
  iintro ⟨⟨⟨HS0, Hg⟩, HT0⟩, Ho, ⟨%d0, H0⟩, ⟨%d1, H1⟩, ⟨%d2, H2⟩, ⟨%d3, H3⟩, H4⟩
  rw [before_0 m (ok_of_range hR) c t d0, before_1 m (ok_of_range hR) c t d1, before_2 m (ok_of_range hR) c t d2, before_3 m (ok_of_range hR) c t d3]
  have hcut : ((cfgM m (ok_of_range hR)).win 0).cut ((cfgM m (ok_of_range hR)).grid.coords t) (filled0 m (ok_of_range hR) c t) = blockAt m (ok_of_range hR) c 0 t :=
    Pipeline.Window.cut_fill _ _ _ _
  by_cases hz : t.val = 0
  · iapply (body_first c (grid0.coords t) _ _ _ _ _ _ _ _ _ _ _ _ ((first_iff t).mpr hz)
      (((cfgM m (ok_of_range hR)).win 0).fill ((cfgM m (ok_of_range hR)).grid.coords t) d0 (blockAt m (ok_of_range hR) c 0 t))
      (blockAt m (ok_of_range hR) c 1 t) (blockAt m (ok_of_range hR) c 2 t) (blockAt m (ok_of_range hR) c 3 t) (tbl m 0) (chk_of_range hR c _) Set.univ _)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    iintro ⟨H0, H1, H2, H3, H4, HS0, HT0⟩
    isplitl [HS0 Hg HT0]
    · isplitl [HS0 Hg]
      · isplitl [HS0]
        · iexists _; iexact HS0
        iexact Hg
      iexact HT0
    isplitl [Ho]; · iexact Ho
    isplitl [H0]
    · iexists d0
      change _ ⊢ owns (c : Thread nD τ) (spec0_0.stage ((cfgM m (ok_of_range hR)).slots t 0)) fullShare (((cfgM m (ok_of_range hR)).win 0).fill ((cfgM m (ok_of_range hR)).grid.coords t) d0 (((cfgM m (ok_of_range hR)).win 0).cut ((cfgM m (ok_of_range hR)).grid.coords t) (filled0 m (ok_of_range hR) c t)))
      rw [hcut]; try iexact H0
    isplitl [H1]; · iexact H1
    isplitl [H2]; · iexact H2
    isplitl [H3]; · iexact H3
    iexists _; iexact H4
  · icases HS0 with ⟨%ds, HS0⟩
    iapply (body_later c (grid0.coords t) _ _ _ _ _ _ _ _ _ _ _ _ (fun h => hz ((first_iff t).mp h))
      (((cfgM m (ok_of_range hR)).win 0).fill ((cfgM m (ok_of_range hR)).grid.coords t) d0 (blockAt m (ok_of_range hR) c 0 t))
      (blockAt m (ok_of_range hR) c 1 t) (blockAt m (ok_of_range hR) c 2 t) (blockAt m (ok_of_range hR) c 3 t) (tbl m 0) ds Set.univ _)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    iintro ⟨H0, H1, H2, H3, H4, HS0, HT0⟩
    isplitl [HS0 Hg HT0]
    · isplitl [HS0 Hg]
      · isplitl [HS0]
        · iexists _; iexact HS0
        iexact Hg
      iexact HT0
    isplitl [Ho]; · iexact Ho
    isplitl [H0]
    · iexists d0
      change _ ⊢ owns (c : Thread nD τ) (spec0_0.stage ((cfgM m (ok_of_range hR)).slots t 0)) fullShare (((cfgM m (ok_of_range hR)).win 0).fill ((cfgM m (ok_of_range hR)).grid.coords t) d0 (((cfgM m (ok_of_range hR)).win 0).cut ((cfgM m (ok_of_range hR)).grid.coords t) (filled0 m (ok_of_range hR) c t)))
      rw [hcut]; try iexact H0
    isplitl [H1]; · iexact H1
    isplitl [H2]; · iexact H2
    isplitl [H3]; · iexact H3
    iexists _; iexact H4

-- the launch theorem's implicit arguments are found by unifying its conclusion with this one, which takes unfolding
-- plain definitions in a metavariable's type
set_option backward.isDefEq.respectTransparency.types false in
set_option maxHeartbeats 800000 in
/-- The run: every buffer but the call's arrays and the program's result ends as the call found it, each input array
    as it was, and every counter is zero. -/
theorem run_main (ρ : Dev nD → PrngReg) (hR : InRange m) :
    θ_run (defs (F := F)) (onTc (τ := τ) (main (F := F))) ⟨m, fun _ => 0, ρ⟩ (fun r =>
      Pipeline.RDat.FramePostR (Pipeline.pin (pcfgs (F := F)) (fun _ => adm m (ok_of_range hR)) 0) (fun c => (dats m (ok_of_range hR) 0 c).toRForget forgets) {main_v4} (fun c b => entryAt m c b) r
        ∧ r.2.sem = fun _ => 0) :=
  Pipeline.θ_run_frameP_around_T_forget (Q' := _) pcfgs (fun _ => adm m (ok_of_range hR)) (dats m (ok_of_range hR)) (0 : Fin 1) launch0 defs₀ Variants.none forgets {main_v4} m ρ main
    (hbody := fun c => body_obligation m hR c)
    (hshare := fun c => (dats m (ok_of_range hR) 0 c).share_full fun _ => rfl)
    (howed := fun _ _ => rfl)
    (V₀ := entry m)
    (opss := [hostOps1])
    (hsub := tail_sub)
    (hfresh := tail_fresh)
    (hkeep := tail_keeps)
    (hT := tail_writes)
    (hmain := main_around m Variants.none)
    (hA := A_eq m (ok_of_range hR))
    (hpf := entry_pre m)
    (hΦ := fun _ _ => rfl)

/-- So every argument ends as launched, and every counter is zero. -/
theorem args_kept (ρ : Dev nD → PrngReg) (hR : InRange m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  refine (θ_run defs _ _).mono (fun r h => ⟨fun c => ?_, h.2⟩) (run_main m ρ hR)
  have rest : ∀ b : Ref sig .tc, b ∈ Pipeline.restRefs sig spec0 \ {main_v4} → b ≠ main_v0 → b ≠ main_v1 → b ≠ main_v2 →
      r.2.mem ((c.tc : Thread nD τ).loc b) = m ((c.tc : Thread nD τ).loc b) := fun b hb h0 h1 h2 =>
    ((h.1 c).2 b hb).trans (entryAt_of_ne m c b h0 h1 h2)
  refine ⟨rest main_arg0 (by decide) (by decide) (by decide) (by decide), rest main_arg1 (by decide) (by decide) (by decide) (by decide), rest main_arg2 (by decide) (by decide) (by decide) (by decide), rest main_arg3 (by decide) (by decide) (by decide) (by decide), rest main_arg4 (by decide) (by decide) (by decide) (by decide), rest main_arg5 (by decide) (by decide) (by decide) (by decide), rest main_arg6 (by decide) (by decide) (by decide) (by decide), rest main_arg7 (by decide) (by decide) (by decide) (by decide), rest main_arg8 (by decide) (by decide) (by decide) (by decide), ?_, ?_⟩
  · exact (h.1.arr_in c 2 rfl).trans (entryAt_of_ne m c main_arg9 (by decide) (by decide) (by decide))
  · exact (h.1.arr_in c 3 rfl).trans (entryAt_of_ne m c main_arg10 (by decide) (by decide) (by decide))

end Frame

end Cert.KernelIdeal.Hand

end
-- ==== Proof.RefRun.lean ====
/-
  The reference over any float values, run: its host lines in seven stretches, each read as a function of what it finds,
  so that the result is one composed function of the arguments.
-/
module

public import proofs.«01_k».proof.Proof.Gen.ReferenceIdeal
public import Idealize.ShloMosaic.Lib.StableHlo.Run
public import Idealize.ShloMosaic.Lib.StableHlo.RunClose
public import Idealize.ShloMosaic.Lib.StableHlo.RunRead
public import Idealize.ShloMosaic.Lib.Pipeline.Frame

@[expose] public section

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A buffer's contents at a shape and element type. -/
abbrev C (F : FTy → Type) (s : Shape) (e : EltTy) : Type := (⟨s, e⟩ : BufTy).Contents (Elt F)

/-! ## What the stretches compute -/

/-- A row index below zero counts from the end: of an axis of two. -/
def wrapped (t : C F S_ .i32) : C F S_ .i32 := select (cmpi .slt t (constantI S_ 32 0#32)) (addi t (constantI S_ 32 2#32)) t
/-- The origin on an axis of `n`, passed through the same test. -/
def origin (n : BitVec 32) : C F S_ .i32 :=
  select (cmpi .slt (constantI S_ 32 0#32) (constantI S_ 32 0#32)) (addi (constantI S_ 32 0#32) (constantI S_ 32 n)) (constantI S_ 32 0#32)

/-- The stacked weights' row at the time step. -/
def rowOf (x : C F S2x128x500 .f32) (t : C F S_ .i32) : C F S128x500 .f32 :=
  shapeCast S128x500 (Host.dynamicSlice S1x128x500 x (fun k => ((![wrapped (F := F) t, origin (F := F) 128#32, origin (F := F) 500#32] : Fin 3 → C F S_ .i32) k (Shape.Idx.first h_S_)).toInt) sliceFits_S2x128x500_S1x128x500) shapeCasts_S1x128x500_S128x500

/-- A gate: the logistic of the first line of the row at the time step. -/
def gate (x : C F S2x2x128 .f32) (t : C F S_ .i32) : C F S128 .f32 :=
  Host.divf (broadcastInDim S128 ![] bcast_S_S128 (constant S_ .f32 0x3F800000#32))
    (addf (broadcastInDim S128 ![] bcast_S_S128 (constant S_ .f32 0x3F800000#32))
      (Host.exp (Host.negf (shapeCast S128 (extractStridedSlice S1x128 ![0, 0] (shapeCast S2x128
        (Host.dynamicSlice S1x2x128 x (fun k => ((![wrapped (F := F) t, origin (F := F) 2#32, origin (F := F) 128#32] : Fin 3 → C F S_ .i32) k (Shape.Idx.first h_S_)).toInt) sliceFits_S2x2x128_S1x2x128)
        shapeCasts_S1x2x128_S2x128) slices_S2x128_S1x128_0_0) shapeCasts_S1x128_S128))))

/-- One value per row, along the row. -/
def along (v : C F S128 .f32) : C F S128x250 .f32 :=
  broadcastInDim S128x250 ![0, 1] bcast_S128x1_S128x250_0_1 (broadcastInDim S128x1 ![0] bcast_S128_S128x1_0 v)

/-- Exponentials of the differences from the row's greatest entry. -/
def powers (x : C F S128x250 .f32) : C F S128x250 .f32 :=
  Host.exp (subf x (along (F := F) (maximumf (broadcastInDim S128 ![] bcast_S_S128 (constant S_ .f32 0xFF800000#32))
    (Host.reduce FloatOps.maximumf x (constant S_ .f32 0xFF800000#32) reducesTo_S128x250_S128_d1 h_S_))))

/-- Softmax along the rows. -/
def softmax (x : C F S128x250 .f32) : C F S128x250 .f32 :=
  Host.divf (powers (F := F) x) (along (F := F) (Host.reduceAdd (powers (F := F) x) (constant S_ .f32 0x00000000#32) reducesTo_S128x250_S128_d1 h_S_))

/-- The two halves of a row of 500. -/
def firstHalf (x : C F S128x500 .f32) : C F S128x250 .f32 := extractStridedSlice S128x250 ![0, 0] x slices_S128x500_S128x250_0_0
def secondHalf (x : C F S128x500 .f32) : C F S128x250 .f32 := extractStridedSlice S128x250 ![0, 250] x slices_S128x500_S128x250_0_250

/-- The last column: one minus the clamped sum of the gates. -/
def lastCol (a b : C F S128 .f32) : C F S128x1 .f32 :=
  subf (broadcastInDim S128x1 ![] bcast_S_S128x1 (constant S_ .f32 0x3F800000#32))
    (minimumf (maximumf (addf (broadcastInDim S128x1 ![0] bcast_S128_S128x1_0 a) (broadcastInDim S128x1 ![0] bcast_S128_S128x1_0 b))
      (broadcastInDim S128x1 ![] bcast_S_S128x1 (constant S_ .f32 0x00000000#32))) (broadcastInDim S128x1 ![] bcast_S_S128x1 (constant S_ .f32 0x3F800000#32)))

/-- The three parts side by side. -/
def joined (x y : C F S128x250 .f32) (z : C F S128x1 .f32) : C F S128x501 .f32 :=
  concatenate S128x501 1 [⟨S128x250, x⟩, ⟨S128x250, y⟩, ⟨S128x1, z⟩] concatenates_S128x250_S128x250_S128x1_S128x501_d1

/-- The weights the input is contracted with. -/
def table (x : C F S2x128x500 .f32) (a b : C F S2x2x128 .f32) (t : C F S_ .i32) : C F S501x128 .f32 :=
  transpose S501x128 [1, 0] (joined (F := F)
    (mulf (softmax (F := F) (firstHalf (F := F) (rowOf (F := F) x t))) (along (F := F) (gate (F := F) a t)))
    (mulf (softmax (F := F) (secondHalf (F := F) (rowOf (F := F) x t))) (along (F := F) (gate (F := F) b t)))
    (lastCol (F := F) (gate (F := F) a t) (gate (F := F) b t))) transposes_S128x501_S501x128_1_0

/-- The contraction, reshaped and clamped. -/
def clamped (x : C F S40000x501 .f32) (w : C F S501x128 .f32) : C F S10000x4x128 .f32 :=
  minimumf (maximumf (shapeCast S10000x4x128 (Host.dotGeneral dot_S40000x501_S501x128_S40000x128_1_0_0_1_n_n none x w) shapeCasts_S40000x128_S10000x4x128)
    (broadcastInDim S10000x4x128 ![] bcast_S_S10000x4x128 (constant S_ .f32 0x00000000#32))) (broadcastInDim S10000x4x128 ![] bcast_S_S10000x4x128 (constant S_ .f32 0x3F800000#32))

/-! ## The stretches -/

/-- The stacked weights' row at the time step. -/
abbrev opsW : List (HloOp τ sig (Elt F)) :=
  [ nullary main_c (constantI S_ 32 0#32),
    binary main_arg3 main_c main_v0 (cmpi .slt : C F S_ .i32 → C F S_ .i32 → C F S_ .i1),
    nullary main_c_0 (constantI S_ 32 2#32),
    binary main_arg3 main_c_0 main_v1 (addi : C F S_ .i32 → C F S_ .i32 → C F S_ .i32),
    ternary main_v0 main_v1 main_arg3 main_v2 (select : C F S_ .i1 → C F S_ .i32 → C F S_ .i32 → C F S_ .i32),
    nullary main_c_1 (constantI S_ 32 0#32),
    nullary main_c_2 (constantI S_ 32 0#32),
    binary main_c_1 main_c_2 main_v3 (cmpi .slt : C F S_ .i32 → C F S_ .i32 → C F S_ .i1),
    nullary main_c_3 (constantI S_ 32 0#32),
    nullary main_c_4 (constantI S_ 32 128#32),
    binary main_c_3 main_c_4 main_v4 (addi : C F S_ .i32 → C F S_ .i32 → C F S_ .i32),
    nullary main_c_5 (constantI S_ 32 0#32),
    ternary main_v3 main_v4 main_c_5 main_v5 (select : C F S_ .i1 → C F S_ .i32 → C F S_ .i32 → C F S_ .i32),
    nullary main_c_6 (constantI S_ 32 0#32),
    nullary main_c_7 (constantI S_ 32 0#32),
    binary main_c_6 main_c_7 main_v6 (cmpi .slt : C F S_ .i32 → C F S_ .i32 → C F S_ .i1),
    nullary main_c_8 (constantI S_ 32 0#32),
    nullary main_c_9 (constantI S_ 32 500#32),
    binary main_c_8 main_c_9 main_v7 (addi : C F S_ .i32 → C F S_ .i32 → C F S_ .i32),
    nullary main_c_10 (constantI S_ 32 0#32),
    ternary main_v6 main_v7 main_c_10 main_v8 (select : C F S_ .i1 → C F S_ .i32 → C F S_ .i32 → C F S_ .i32),
    unaryIndexed main_arg6 ![main_v2, main_v5, main_v8] ⟨S_, .i32⟩ main_v9 ((fun x i => Host.dynamicSlice S1x128x500 x (fun k => (i k (Shape.Idx.first h_S_)).toInt) sliceFits_S2x128x500_S1x128x500) : C F S2x128x500 .f32 → (Fin 3 → C F S_ .i32) → C F S1x128x500 .f32),
    reshape main_v9 main_v10 (rfl : (.f32 : EltTy) = .f32) shapeCasts_S1x128x500_S128x500 ]

/-- The first gate: its row, then the logistic of the row's first line. -/
abbrev opsA : List (HloOp τ sig (Elt F)) :=
  [ nullary main_c_11 (constantI S_ 32 0#32),
    binary main_arg3 main_c_11 main_v11 (cmpi .slt : C F S_ .i32 → C F S_ .i32 → C F S_ .i1),
    nullary main_c_12 (constantI S_ 32 2#32),
    binary main_arg3 main_c_12 main_v12 (addi : C F S_ .i32 → C F S_ .i32 → C F S_ .i32),
    ternary main_v11 main_v12 main_arg3 main_v13 (select : C F S_ .i1 → C F S_ .i32 → C F S_ .i32 → C F S_ .i32),
    nullary main_c_13 (constantI S_ 32 0#32),
    nullary main_c_14 (constantI S_ 32 0#32),
    binary main_c_13 main_c_14 main_v14 (cmpi .slt : C F S_ .i32 → C F S_ .i32 → C F S_ .i1),
    nullary main_c_15 (constantI S_ 32 0#32),
    nullary main_c_16 (constantI S_ 32 2#32),
    binary main_c_15 main_c_16 main_v15 (addi : C F S_ .i32 → C F S_ .i32 → C F S_ .i32),
    nullary main_c_17 (constantI S_ 32 0#32),
    ternary main_v14 main_v15 main_c_17 main_v16 (select : C F S_ .i1 → C F S_ .i32 → C F S_ .i32 → C F S_ .i32),
    nullary main_c_18 (constantI S_ 32 0#32),
    nullary main_c_19 (constantI S_ 32 0#32),
    binary main_c_18 main_c_19 main_v17 (cmpi .slt : C F S_ .i32 → C F S_ .i32 → C F S_ .i1),
    nullary main_c_20 (constantI S_ 32 0#32),
    nullary main_c_21 (constantI S_ 32 128#32),
    binary main_c_20 main_c_21 main_v18 (addi : C F S_ .i32 → C F S_ .i32 → C F S_ .i32),
    nullary main_c_22 (constantI S_ 32 0#32),
    ternary main_v17 main_v18 main_c_22 main_v19 (select : C F S_ .i1 → C F S_ .i32 → C F S_ .i32 → C F S_ .i32),
    unaryIndexed main_arg9 ![main_v13, main_v16, main_v19] ⟨S_, .i32⟩ main_v20 ((fun x i => Host.dynamicSlice S1x2x128 x (fun k => (i k (Shape.Idx.first h_S_)).toInt) sliceFits_S2x2x128_S1x2x128) : C F S2x2x128 .f32 → (Fin 3 → C F S_ .i32) → C F S1x2x128 .f32),
    reshape main_v20 main_v21 (rfl : (.f32 : EltTy) = .f32) shapeCasts_S1x2x128_S2x128,
    unary main_v21 main_v22 ((extractStridedSlice S1x128 ![0, 0] · slices_S2x128_S1x128_0_0) : C F S2x128 .f32 → C F S1x128 .f32),
    reshape main_v22 main_v23 (rfl : (.f32 : EltTy) = .f32) shapeCasts_S1x128_S128,
    unary main_v23 main_v24 (Host.negf : C F S128 .f32 → C F S128 .f32),
    unary main_v24 main_v25 (Host.exp : C F S128 .f32 → C F S128 .f32),
    nullary main_cst (constant S_ .f32 0x3F800000#32),
    unary main_cst main_v26 (broadcastInDim S128 ![] bcast_S_S128 : C F S_ .f32 → C F S128 .f32),
    binary main_v26 main_v25 main_v27 (addf : C F S128 .f32 → C F S128 .f32 → C F S128 .f32),
    nullary main_cst_23 (constant S_ .f32 0x3F800000#32),
    unary main_cst_23 main_v28 (broadcastInDim S128 ![] bcast_S_S128 : C F S_ .f32 → C F S128 .f32),
    binary main_v28 main_v27 main_v29 (Host.divf : C F S128 .f32 → C F S128 .f32 → C F S128 .f32) ]

/-- The second gate. -/
abbrev opsB : List (HloOp τ sig (Elt F)) :=
  [ nullary main_c_24 (constantI S_ 32 0#32),
    binary main_arg3 main_c_24 main_v30 (cmpi .slt : C F S_ .i32 → C F S_ .i32 → C F S_ .i1),
    nullary main_c_25 (constantI S_ 32 2#32),
    binary main_arg3 main_c_25 main_v31 (addi : C F S_ .i32 → C F S_ .i32 → C F S_ .i32),
    ternary main_v30 main_v31 main_arg3 main_v32 (select : C F S_ .i1 → C F S_ .i32 → C F S_ .i32 → C F S_ .i32),
    nullary main_c_26 (constantI S_ 32 0#32),
    nullary main_c_27 (constantI S_ 32 0#32),
    binary main_c_26 main_c_27 main_v33 (cmpi .slt : C F S_ .i32 → C F S_ .i32 → C F S_ .i1),
    nullary main_c_28 (constantI S_ 32 0#32),
    nullary main_c_29 (constantI S_ 32 2#32),
    binary main_c_28 main_c_29 main_v34 (addi : C F S_ .i32 → C F S_ .i32 → C F S_ .i32),
    nullary main_c_30 (constantI S_ 32 0#32),
    ternary main_v33 main_v34 main_c_30 main_v35 (select : C F S_ .i1 → C F S_ .i32 → C F S_ .i32 → C F S_ .i32),
    nullary main_c_31 (constantI S_ 32 0#32),
    nullary main_c_32 (constantI S_ 32 0#32),
    binary main_c_31 main_c_32 main_v36 (cmpi .slt : C F S_ .i32 → C F S_ .i32 → C F S_ .i1),
    nullary main_c_33 (constantI S_ 32 0#32),
    nullary main_c_34 (constantI S_ 32 128#32),
    binary main_c_33 main_c_34 main_v37 (addi : C F S_ .i32 → C F S_ .i32 → C F S_ .i32),
    nullary main_c_35 (constantI S_ 32 0#32),
    ternary main_v36 main_v37 main_c_35 main_v38 (select : C F S_ .i1 → C F S_ .i32 → C F S_ .i32 → C F S_ .i32),
    unaryIndexed main_arg10 ![main_v32, main_v35, main_v38] ⟨S_, .i32⟩ main_v39 ((fun x i => Host.dynamicSlice S1x2x128 x (fun k => (i k (Shape.Idx.first h_S_)).toInt) sliceFits_S2x2x128_S1x2x128) : C F S2x2x128 .f32 → (Fin 3 → C F S_ .i32) → C F S1x2x128 .f32),
    reshape main_v39 main_v40 (rfl : (.f32 : EltTy) = .f32) shapeCasts_S1x2x128_S2x128,
    unary main_v40 main_v41 ((extractStridedSlice S1x128 ![0, 0] · slices_S2x128_S1x128_0_0) : C F S2x128 .f32 → C F S1x128 .f32),
    reshape main_v41 main_v42 (rfl : (.f32 : EltTy) = .f32) shapeCasts_S1x128_S128,
    unary main_v42 main_v43 (Host.negf : C F S128 .f32 → C F S128 .f32),
    unary main_v43 main_v44 (Host.exp : C F S128 .f32 → C F S128 .f32),
    nullary main_cst_36 (constant S_ .f32 0x3F800000#32),
    unary main_cst_36 main_v45 (broadcastInDim S128 ![] bcast_S_S128 : C F S_ .f32 → C F S128 .f32),
    binary main_v45 main_v44 main_v46 (addf : C F S128 .f32 → C F S128 .f32 → C F S128 .f32),
    nullary main_cst_37 (constant S_ .f32 0x3F800000#32),
    unary main_cst_37 main_v47 (broadcastInDim S128 ![] bcast_S_S128 : C F S_ .f32 → C F S128 .f32),
    binary main_v47 main_v46 main_v48 (Host.divf : C F S128 .f32 → C F S128 .f32 → C F S128 .f32) ]

/-- The first half's softmax. -/
abbrev opsFirst : List (HloOp τ sig (Elt F)) :=
  [ unary main_v10 main_v49 ((extractStridedSlice S128x250 ![0, 0] · slices_S128x500_S128x250_0_0) : C F S128x500 .f32 → C F S128x250 .f32),
    nullary main_cst_38 (constant S_ .f32 0xFF800000#32),
    binary main_v49 main_cst_38 main_v50 ((fun x v => Host.reduce FloatOps.maximumf x v reducesTo_S128x250_S128_d1 h_S_) : C F S128x250 .f32 → C F S_ .f32 → C F S128 .f32),
    nullary main_cst_39 (constant S_ .f32 0xFF800000#32),
    unary main_cst_39 main_v51 (broadcastInDim S128 ![] bcast_S_S128 : C F S_ .f32 → C F S128 .f32),
    binary main_v51 main_v50 main_v52 (maximumf : C F S128 .f32 → C F S128 .f32 → C F S128 .f32),
    unary main_v52 main_v53 (broadcastInDim S128x1 ![0] bcast_S128_S128x1_0 : C F S128 .f32 → C F S128x1 .f32),
    unary main_v53 main_v54 (broadcastInDim S128x250 ![0, 1] bcast_S128x1_S128x250_0_1 : C F S128x1 .f32 → C F S128x250 .f32),
    binary main_v49 main_v54 main_v55 (subf : C F S128x250 .f32 → C F S128x250 .f32 → C F S128x250 .f32),
    unary main_v55 main_v56 (Host.exp : C F S128x250 .f32 → C F S128x250 .f32),
    nullary main_cst_40 (constant S_ .f32 0x00000000#32),
    binary main_v56 main_cst_40 main_v57 ((fun x v => Host.reduceAdd x v reducesTo_S128x250_S128_d1 h_S_) : C F S128x250 .f32 → C F S_ .f32 → C F S128 .f32),
    unary main_v57 main_v58 (broadcastInDim S128x1 ![0] bcast_S128_S128x1_0 : C F S128 .f32 → C F S128x1 .f32),
    unary main_v58 main_v59 (broadcastInDim S128x250 ![0, 1] bcast_S128x1_S128x250_0_1 : C F S128x1 .f32 → C F S128x250 .f32),
    binary main_v56 main_v59 main_v60 (Host.divf : C F S128x250 .f32 → C F S128x250 .f32 → C F S128x250 .f32) ]

/-- The second half's softmax. -/
abbrev opsSecond : List (HloOp τ sig (Elt F)) :=
  [ unary main_v10 main_v61 ((extractStridedSlice S128x250 ![0, 250] · slices_S128x500_S128x250_0_250) : C F S128x500 .f32 → C F S128x250 .f32),
    nullary main_cst_41 (constant S_ .f32 0xFF800000#32),
    binary main_v61 main_cst_41 main_v62 ((fun x v => Host.reduce FloatOps.maximumf x v reducesTo_S128x250_S128_d1 h_S_) : C F S128x250 .f32 → C F S_ .f32 → C F S128 .f32),
    nullary main_cst_42 (constant S_ .f32 0xFF800000#32),
    unary main_cst_42 main_v63 (broadcastInDim S128 ![] bcast_S_S128 : C F S_ .f32 → C F S128 .f32),
    binary main_v63 main_v62 main_v64 (maximumf : C F S128 .f32 → C F S128 .f32 → C F S128 .f32),
    unary main_v64 main_v65 (broadcastInDim S128x1 ![0] bcast_S128_S128x1_0 : C F S128 .f32 → C F S128x1 .f32),
    unary main_v65 main_v66 (broadcastInDim S128x250 ![0, 1] bcast_S128x1_S128x250_0_1 : C F S128x1 .f32 → C F S128x250 .f32),
    binary main_v61 main_v66 main_v67 (subf : C F S128x250 .f32 → C F S128x250 .f32 → C F S128x250 .f32),
    unary main_v67 main_v68 (Host.exp : C F S128x250 .f32 → C F S128x250 .f32),
    nullary main_cst_43 (constant S_ .f32 0x00000000#32),
    binary main_v68 main_cst_43 main_v69 ((fun x v => Host.reduceAdd x v reducesTo_S128x250_S128_d1 h_S_) : C F S128x250 .f32 → C F S_ .f32 → C F S128 .f32),
    unary main_v69 main_v70 (broadcastInDim S128x1 ![0] bcast_S128_S128x1_0 : C F S128 .f32 → C F S128x1 .f32),
    unary main_v70 main_v71 (broadcastInDim S128x250 ![0, 1] bcast_S128x1_S128x250_0_1 : C F S128x1 .f32 → C F S128x250 .f32),
    binary main_v68 main_v71 main_v72 (Host.divf : C F S128x250 .f32 → C F S128x250 .f32 → C F S128x250 .f32) ]

/-- The scaled halves and the last column. -/
abbrev opsParts : List (HloOp τ sig (Elt F)) :=
  [ unary main_v29 main_v73 (broadcastInDim S128x1 ![0] bcast_S128_S128x1_0 : C F S128 .f32 → C F S128x1 .f32),
    unary main_v73 main_v74 (broadcastInDim S128x250 ![0, 1] bcast_S128x1_S128x250_0_1 : C F S128x1 .f32 → C F S128x250 .f32),
    binary main_v60 main_v74 main_v75 (mulf : C F S128x250 .f32 → C F S128x250 .f32 → C F S128x250 .f32),
    unary main_v48 main_v76 (broadcastInDim S128x1 ![0] bcast_S128_S128x1_0 : C F S128 .f32 → C F S128x1 .f32),
    unary main_v76 main_v77 (broadcastInDim S128x250 ![0, 1] bcast_S128x1_S128x250_0_1 : C F S128x1 .f32 → C F S128x250 .f32),
    binary main_v72 main_v77 main_v78 (mulf : C F S128x250 .f32 → C F S128x250 .f32 → C F S128x250 .f32),
    unary main_v29 main_v79 (broadcastInDim S128x1 ![0] bcast_S128_S128x1_0 : C F S128 .f32 → C F S128x1 .f32),
    unary main_v48 main_v80 (broadcastInDim S128x1 ![0] bcast_S128_S128x1_0 : C F S128 .f32 → C F S128x1 .f32),
    binary main_v79 main_v80 main_v81 (addf : C F S128x1 .f32 → C F S128x1 .f32 → C F S128x1 .f32),
    nullary main_cst_44 (constant S_ .f32 0x00000000#32),
    unary main_cst_44 main_v82 (broadcastInDim S128x1 ![] bcast_S_S128x1 : C F S_ .f32 → C F S128x1 .f32),
    binary main_v81 main_v82 main_v83 (maximumf : C F S128x1 .f32 → C F S128x1 .f32 → C F S128x1 .f32),
    nullary main_cst_45 (constant S_ .f32 0x3F800000#32),
    unary main_cst_45 main_v84 (broadcastInDim S128x1 ![] bcast_S_S128x1 : C F S_ .f32 → C F S128x1 .f32),
    binary main_v83 main_v84 main_v85 (minimumf : C F S128x1 .f32 → C F S128x1 .f32 → C F S128x1 .f32),
    nullary main_cst_46 (constant S_ .f32 0x3F800000#32),
    unary main_cst_46 main_v86 (broadcastInDim S128x1 ![] bcast_S_S128x1 : C F S_ .f32 → C F S128x1 .f32),
    binary main_v86 main_v85 main_v87 (subf : C F S128x1 .f32 → C F S128x1 .f32 → C F S128x1 .f32) ]

/-- Joined, transposed, contracted with the input, reshaped and clamped. -/
abbrev opsEnd : List (HloOp τ sig (Elt F)) :=
  [ nary ![main_v75, main_v78, main_v87] main_v88 (fun u => joined (F := F) (u 0) (u 1) (u 2)),
    unary main_v88 main_v89 ((transpose S501x128 [1, 0] · transposes_S128x501_S501x128_1_0) : C F S128x501 .f32 → C F S501x128 .f32),
    binary main_arg0 main_v89 main_v90 ((fun l r => Host.dotGeneral dot_S40000x501_S501x128_S40000x128_1_0_0_1_n_n none l r) : C F S40000x501 .f32 → C F S501x128 .f32 → C F S40000x128 .f32),
    reshape main_v90 main_v91 (rfl : (.f32 : EltTy) = .f32) shapeCasts_S40000x128_S10000x4x128,
    nullary main_cst_47 (constant S_ .f32 0x00000000#32),
    unary main_cst_47 main_v92 (broadcastInDim S10000x4x128 ![] bcast_S_S10000x4x128 : C F S_ .f32 → C F S10000x4x128 .f32),
    binary main_v91 main_v92 main_v93 (maximumf : C F S10000x4x128 .f32 → C F S10000x4x128 .f32 → C F S10000x4x128 .f32),
    nullary main_cst_48 (constant S_ .f32 0x3F800000#32),
    unary main_cst_48 main_v94 (broadcastInDim S10000x4x128 ![] bcast_S_S10000x4x128 : C F S_ .f32 → C F S10000x4x128 .f32),
    binary main_v93 main_v94 main_v95 (minimumf : C F S10000x4x128 .f32 → C F S10000x4x128 .f32 → C F S10000x4x128 .f32) ]

/-- All of the lines. -/
abbrev ops : List (HloOp τ sig (Elt F)) := opsW ++ (opsA ++ (opsB ++ (opsFirst ++ (opsSecond ++ (opsParts ++ opsEnd)))))

set_option maxHeartbeats 4000000 in
theorem main_eq (c : Dev nD) : main (F := F) c = seq ops := rfl

theorem opsW_sub : (opsW : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub ..⟩
theorem opsA_sub : (opsA : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., reshape_bufs_sub .., unary_bufs_sub .., unary_bufs_sub .., nullary_bufs_sub .., unary_bufs_sub .., binary_bufs_sub .., nullary_bufs_sub .., unary_bufs_sub .., binary_bufs_sub ..⟩
theorem opsB_sub : (opsB : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., reshape_bufs_sub .., unary_bufs_sub .., unary_bufs_sub .., nullary_bufs_sub .., unary_bufs_sub .., binary_bufs_sub .., nullary_bufs_sub .., unary_bufs_sub .., binary_bufs_sub ..⟩
theorem opsFirst_sub : (opsFirst : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem opsSecond_sub : (opsSecond : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem opsParts_sub : (opsParts : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
theorem opsEnd_sub : (opsEnd : List (HloOp τ sig (Elt F))).Forall fun op => op.bufs ⊆ tcRefs τ sig :=
  ⟨nary_bufs_sub .., unary_bufs_sub .., binary_bufs_sub .., reshape_bufs_sub .., nullary_bufs_sub .., unary_bufs_sub .., binary_bufs_sub .., nullary_bufs_sub .., unary_bufs_sub .., binary_bufs_sub ..⟩

/-! ## Each stretch read -/

variable (V : Valuation τ sig (Elt F))

theorem read_W : after opsW V main_v10 = rowOf (F := F) (V main_arg6) (V main_arg3) := by
  after_results_simp_entrywise
  rfl
theorem read_A : after opsA V main_v29 = gate (F := F) (V main_arg9) (V main_arg3) := by
  after_results_simp_entrywise
  rfl
theorem read_B : after opsB V main_v48 = gate (F := F) (V main_arg10) (V main_arg3) := by
  after_results_simp_entrywise
  rfl
theorem read_First : after opsFirst V main_v60 = softmax (F := F) (firstHalf (F := F) (V main_v10)) := by
  after_results_simp
  rfl
theorem read_Second : after opsSecond V main_v72 = softmax (F := F) (secondHalf (F := F) (V main_v10)) := by
  after_results_simp
  rfl
theorem read_part1 : after opsParts V main_v75 = mulf (s := S128x250) (φ := .f32) (V main_v60) (along (F := F) (V main_v29)) := by
  after_results_simp
  rfl
theorem read_part2 : after opsParts V main_v78 = mulf (s := S128x250) (φ := .f32) (V main_v72) (along (F := F) (V main_v48)) := by
  after_results_simp
  rfl
theorem read_part3 : after opsParts V main_v87 = lastCol (F := F) (V main_v29) (V main_v48) := by
  after_results_simp
  rfl
theorem read_End : after opsEnd V main_v95 = clamped (F := F) (V main_arg0) (transpose S501x128 [1, 0] (joined (F := F) (V main_v75) (V main_v78) (V main_v87)) transposes_S128x501_S501x128_1_0) := by
  after_results_simp
  rfl

/-! ## What a stretch leaves alone -/

/-- Two valuations hold the same arguments. -/
def SameArgs (V W : Valuation τ sig (Elt F)) : Prop :=
  V main_arg0 = W main_arg0 ∧
  V main_arg1 = W main_arg1 ∧
  V main_arg2 = W main_arg2 ∧
  V main_arg3 = W main_arg3 ∧
  V main_arg4 = W main_arg4 ∧
  V main_arg5 = W main_arg5 ∧
  V main_arg6 = W main_arg6 ∧
  V main_arg7 = W main_arg7 ∧
  V main_arg8 = W main_arg8 ∧
  V main_arg9 = W main_arg9 ∧
  V main_arg10 = W main_arg10

/-- Passing through a third. -/
theorem SameArgs.through {V W X : Valuation τ sig (Elt F)} (h : SameArgs V W) (h' : SameArgs W X) : SameArgs V X := by
  obtain ⟨a0, a1, a2, a3, a4, a5, a6, a7, a8, a9, a10⟩ := h
  obtain ⟨b0, b1, b2, b3, b4, b5, b6, b7, b8, b9, b10⟩ := h'
  exact ⟨a0.trans b0, a1.trans b1, a2.trans b2, a3.trans b3, a4.trans b4, a5.trans b5, a6.trans b6, a7.trans b7, a8.trans b8, a9.trans b9, a10.trans b10⟩

/-- The arguments stand after this stretch. -/
theorem args_W : SameArgs (after opsW V) V := by
  refine ⟨?_, ?_, ?_, ?_, ?_, ?_, ?_, ?_, ?_, ?_, ?_⟩ <;> after_results_simp
/-- The arguments stand after this stretch. -/
theorem args_A : SameArgs (after opsA V) V := by
  refine ⟨?_, ?_, ?_, ?_, ?_, ?_, ?_, ?_, ?_, ?_, ?_⟩ <;> after_results_simp
/-- The arguments stand after this stretch. -/
theorem args_B : SameArgs (after opsB V) V := by
  refine ⟨?_, ?_, ?_, ?_, ?_, ?_, ?_, ?_, ?_, ?_, ?_⟩ <;> after_results_simp
/-- The arguments stand after this stretch. -/
theorem args_First : SameArgs (after opsFirst V) V := by
  refine ⟨?_, ?_, ?_, ?_, ?_, ?_, ?_, ?_, ?_, ?_, ?_⟩ <;> after_results_simp
/-- The arguments stand after this stretch. -/
theorem args_Second : SameArgs (after opsSecond V) V := by
  refine ⟨?_, ?_, ?_, ?_, ?_, ?_, ?_, ?_, ?_, ?_, ?_⟩ <;> after_results_simp
/-- The arguments stand after this stretch. -/
theorem args_Parts : SameArgs (after opsParts V) V := by
  refine ⟨?_, ?_, ?_, ?_, ?_, ?_, ?_, ?_, ?_, ?_, ?_⟩ <;> after_results_simp
/-- The arguments stand after this stretch. -/
theorem args_End : SameArgs (after opsEnd V) V := by
  refine ⟨?_, ?_, ?_, ?_, ?_, ?_, ?_, ?_, ?_, ?_, ?_⟩ <;> after_results_simp
/-- This stretch writes elsewhere. -/
theorem keep_A_v10 : after opsA V main_v10 = V main_v10 := by after_results_simp
/-- This stretch writes elsewhere. -/
theorem keep_B_v10 : after opsB V main_v10 = V main_v10 := by after_results_simp
/-- This stretch writes elsewhere. -/
theorem keep_B_v29 : after opsB V main_v29 = V main_v29 := by after_results_simp
/-- This stretch writes elsewhere. -/
theorem keep_First_v10 : after opsFirst V main_v10 = V main_v10 := by after_results_simp
/-- This stretch writes elsewhere. -/
theorem keep_First_v29 : after opsFirst V main_v29 = V main_v29 := by after_results_simp
/-- This stretch writes elsewhere. -/
theorem keep_First_v48 : after opsFirst V main_v48 = V main_v48 := by after_results_simp
/-- This stretch writes elsewhere. -/
theorem keep_Second_v29 : after opsSecond V main_v29 = V main_v29 := by after_results_simp
/-- This stretch writes elsewhere. -/
theorem keep_Second_v48 : after opsSecond V main_v48 = V main_v48 := by after_results_simp
/-- This stretch writes elsewhere. -/
theorem keep_Second_v60 : after opsSecond V main_v60 = V main_v60 := by after_results_simp

/-- The arguments stand after all of the lines. -/
theorem args_ops : SameArgs (after ops V) V := by
  simp only [ops, after_append]
  exact (args_End _).through ((args_Parts _).through ((args_Second _).through ((args_First _).through ((args_B _).through ((args_A _).through (args_W _))))))

/-- All of the lines, read at the result. -/
theorem read_ops : after ops V main_v95 =
    clamped (F := F) (V main_arg0) (table (F := F) (V main_arg6) (V main_arg9) (V main_arg10) (V main_arg3)) := by
  have w := args_W V
  have a := (args_A _).through w
  have b := (args_B _).through a
  have p := (args_Parts _).through ((args_Second _).through ((args_First _).through b))
  simp only [ops, after_append]
  rw [read_End, read_part1, read_part2, read_part3, read_Second, keep_Second_v60, keep_Second_v29, keep_Second_v48, keep_First_v29, keep_First_v48,
    keep_First_v10, read_First, keep_B_v10, keep_B_v29, read_B, keep_A_v10, read_A, read_W, p.1, a.2.2.2.1, a.2.2.2.2.2.2.2.2.2.2, w.2.2.2.1, w.2.2.2.2.2.2.2.2.2.1]
  rfl

/-- No buffer and no semaphore of the reference lives only inside a scope. -/
theorem no_scoped_refs : (Finset.univ.filter fun b : Ref sig .tc => b.isScoped) = ∅ := by decide
theorem no_scoped_sems : (Finset.univ.filter fun s : SemLoc sig => s.isScoped .tc) = ∅ := by decide

/-- All of the lines touch the TensorCore's buffers only. -/
theorem ops_bufs : (ops : List (HloOp τ sig (Elt F))).Forall fun op => op.bufs ⊆ tcRefs τ sig :=
  List.forall_append.2 ⟨opsW_sub, List.forall_append.2 ⟨opsA_sub, List.forall_append.2 ⟨opsB_sub, List.forall_append.2 ⟨opsFirst_sub,
    List.forall_append.2 ⟨opsSecond_sub, List.forall_append.2 ⟨opsParts_sub, opsEnd_sub⟩⟩⟩⟩⟩⟩

/-- The reference's run: the result is the composed function of the arguments, and the arguments stand. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) =
        clamped (F := F) (m ((c.tc : Thread nD τ).loc main_arg0)) (table (F := F) (m ((c.tc : Thread nD τ).loc main_arg6)) (m ((c.tc : Thread nD τ).loc main_arg9))
          (m ((c.tc : Thread nD τ).loc main_arg10)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (run_seq no_scoped_refs no_scoped_sems defs main (fun _ => ops) main_eq (fun _ => ops_bufs) m ρ)
  have k := args_ops (F := F) (launchContents m c)
  exact ⟨(h c main_v95).trans (read_ops (F := F) (launchContents m c)),
    (h c main_arg0).trans k.1, (h c main_arg1).trans k.2.1, (h c main_arg2).trans k.2.2.1, (h c main_arg3).trans k.2.2.2.1, (h c main_arg4).trans k.2.2.2.2.1, (h c main_arg5).trans k.2.2.2.2.2.1, (h c main_arg6).trans k.2.2.2.2.2.2.1, (h c main_arg7).trans k.2.2.2.2.2.2.2.1, (h c main_arg8).trans k.2.2.2.2.2.2.2.2.1, (h c main_arg9).trans k.2.2.2.2.2.2.2.2.2.1, (h c main_arg10).trans k.2.2.2.2.2.2.2.2.2.2⟩

end Cert.ReferenceIdeal.Hand

end
-- ==== Proof.Range.lean ====
/- What the longer precondition says: besides the time step's range, every weight is a real number. -/
module

public import proofs.«01_k».proof.Defs
public import proofs.«01_k».proof.Proof.RangeStep
public import Idealize.ShloMosaic.Lib.Decide
public import Idealize.ShloMosaic.Lib.Affine
public import Idealize.ShloMosaic.Lib.ReduceAll
public import Idealize.ShloMosaic.Lib.IdealHost

@[expose] public section

noncomputable section

namespace Cert.Range

open Idealize.ShloMosaic Idealize.SL.Sem

/-- The shape relations the longer precondition's operations take. -/
instance finiteFacts : Cert.Pre_t_in_range_w_finite.Facts where
  bcast_S_S2x128x500 := by decide
  reducesTo_S2x128x500_S_d0_1_2 := by decide
  h_S_ := by decide

/-- The longer precondition on the time step's word. -/
theorem step_of_finite {F : FTy → Type} [FloatOps F] {a0 a1 a2 a3 a4 a5 a6 a7 a8 a9 a10}
    (h : Cert.Pre_t_in_range_w_finite.fn (F := F) a0 a1 a2 a3 a4 a5 a6 a7 a8 a9 a10 = fun _ => 1#1) :
    a3 (fun a => a.elim0) = 0#32 ∨ a3 (fun a => a.elim0) = 1#32 :=
  word_zero_or_one (IntOp.andi_eq_one.1 (congrFun h fun a => a.elim0)).1

/-- The longer precondition on the weights, read as extended reals: none is infinite. -/
theorem weight_finite {a0 a1 a2 a3 a4 a5 a6 a7 a8 a9 a10}
    (h : Cert.Pre_t_in_range_w_finite.fn (F := Ideal) a0 a1 a2 a3 a4 a5 a6 a7 a8 a9 a10 = fun _ => 1#1)
    (i : Cert.Pre_t_in_range_w_finite.S2x128x500.Idx) : (a6 i : EReal) ≠ ⊤ ∧ (a6 i : EReal) ≠ ⊥ := by
  have hs : Subsingleton Cert.Pre_t_in_range_w_finite.S_.Idx := ⟨fun x y => funext fun a => a.elim0⟩
  have h1 := Host.reduce_andi_all _ _ _ _ _ (IntOp.andi_eq_one.1 (congrFun h fun a => a.elim0)).2 i
  have ht : Ideal.ofBits .f32 0x7F800000#32 = ⊤ := by simp [Ideal.ofBits, Ideal.ieee]
  have h2 : Ideal.cmp .olt (max (a6 i : EReal) (-(a6 i : EReal))) (Ideal.ofBits .f32 0x7F800000#32) = 1#1 := h1
  have h3 : max (a6 i : EReal) (-(a6 i : EReal)) < ⊤ := by
    rw [ht] at h2
    by_contra hn
    simp [Ideal.cmp, hn] at h2
  refine ⟨fun e => ?_, fun e => ?_⟩ <;> rw [e] at h3 <;> simp at h3

end Cert.Range

end
-- ==== Proof.KernelIdealBlock.lean ====
/-
  One grid point's result over the extended reals: each entry is a sum over the 501 columns, clamped to [0, 1]. An entry
  reads one row of the staged input, so the rows inside the array do not depend on what the buffer holds past its end.
-/
module

public import proofs.«01_k».proof.Proof.KernelIdealFrame
public import Idealize.ShloMosaic.Lib.Pointwise
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe
open Idealize.SL.Sem

/-- Column `j` of the staged (transposed) input against column `l` of the weights, clamped. -/
def entrySum (x : Vec Ideal S501x7168 .f32) (w : Vec Ideal S501x128 .bf16) (j : Fin 7168) (l : Fin 128) : EReal :=
  min (max (∑ k : Fin 501, (x (ix2 k j) : EReal) * (w (ix2 k l) : EReal)) 0) 1

/-- What the body stores in the result's buffer, at an index. -/
theorem pay2_apply (x : Vec Ideal S501x7168 .f32) (w : Vec Ideal S501x128 .bf16) (i : S7168x128.Idx) :
    k0_pay2 x w i = entrySum x w (i 0) (i 1) := by
  unfold k0_pay2 entrySum
  simp only [pointwise]
  rw [zero_add]

end Cert.KernelIdeal.Hand

end
-- ==== Proof.KernelIdealRun.lean ====
/-
  `KernelIdeal` run over the extended reals with the result named: at every grid point the result's buffer holds, on the
  rows inside the array, the clamped product of the staged input and the weights the first point left in the scratch.
-/
module

public import proofs.«01_k».proof.Proof.KernelIdealBlock
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

namespace Value

/-! ## The weights, and the data of the run -/

/-- The weights: what the first point computes from the three stacked inputs' blocks. -/
def weights (hR : InRange m) (c : Dev nD) : Vec Ideal S501x128 .bf16 :=
  weightsOf c (grid0.coords t0_0) ((first_iff t0_0).mpr rfl) (blockAt m (ok_of_range hR) c 1 t0_0) (blockAt m (ok_of_range hR) c 2 t0_0)
    (blockAt m (ok_of_range hR) c 3 t0_0) (wordOf c (tbl m 0)) (chk_of_range hR c _)

/-- Whatever proof that the point is the first. -/
theorem weights_eq (hR : InRange m) (c : Dev nD) (t : Fin (cfgM m (ok_of_range hR)).N) (hz : t.val = 0) (h : k0_cond1 (grid0.coords t) = 1#1) :
    weightsOf c (grid0.coords t) h (blockAt m (ok_of_range hR) c 1 t) (blockAt m (ok_of_range hR) c 2 t) (blockAt m (ok_of_range hR) c 3 t)
      (wordOf c (tbl m 0)) (chk_of_range hR c _) = weights m hR c := by
  obtain rfl : t = t0_0 := Fin.ext hz
  rfl

/-- The region's invariant before position `n`: at the start the scratch holds something, afterwards the weights. -/
def held (hR : InRange m) (c : Dev nD) : (n : ℕ) → n ≤ (cfgM m (ok_of_range hR)).N → sProp 𝕄
  | 0, _ => iprop(Pipeline.ΦA spec0 c ∗ Pipeline.ΦT pre0 (tbl m) c)
  | _ + 1, _ => iprop(iprop(owns (c : Thread nD τ) scM fullShare (weights m hR c) ∗ (∃ r, prngReg c r)) ∗ Pipeline.ΦT pre0 (tbl m) c)

theorem held_zero (hR : InRange m) (c : Dev nD) (n : ℕ) (h : n ≤ (cfgM m (ok_of_range hR)).N) (hz : n = 0) :
    held m hR c n h = iprop(Pipeline.ΦA spec0 c ∗ Pipeline.ΦT pre0 (tbl m) c) := by
  subst hz; rfl
theorem held_pos (hR : InRange m) (c : Dev nD) (n : ℕ) (h : n ≤ (cfgM m (ok_of_range hR)).N) (hz : n ≠ 0) :
    held m hR c n h = iprop(iprop(owns (c : Thread nD τ) scM fullShare (weights m hR c) ∗ (∃ r, prngReg c r)) ∗ Pipeline.ΦT pre0 (tbl m) c) := by
  cases n with
  | zero => exact absurd rfl hz
  | succ n => rfl

/-- The proof data of the run. -/
def dats (hR : InRange m) (p : Fin 1) (c : Dev nD) : Dat τ (Elt Ideal) Unit ℕ (UR sig nD τ) ℕ (Pipeline.pin (pcfgs (F := Ideal)) (fun _ => adm m (ok_of_range hR)) p) c where
  A w := entryAt m c (Pipeline.arrRef spec0 w)
  after w t := match w with
    | ⟨0, _⟩ => Frame.filled0 m (ok_of_range hR) c t
    | ⟨1, _⟩ => blockAt m (ok_of_range hR) c 1 t
    | ⟨2, _⟩ => blockAt m (ok_of_range hR) c 2 t
    | ⟨3, _⟩ => blockAt m (ok_of_range hR) c 3 t
    | ⟨4, _⟩ => k0_pay2 (Frame.filled0 m (ok_of_range hR) c t) (weights m hR c)
    | ⟨_ + 5, h⟩ => absurd h (Nat.not_lt.2 (Nat.le_add_left _ _))
  Φ t := held m hR c t.val (Nat.le_of_lt_succ t.isLt)
  q _ := fullShare
  owed _ := 0

theorem A_eq (hR : InRange m) (c : Dev nD) (w : Fin 5) : (dats m hR 0 c).A w = entryAt m c (Pipeline.arrRef spec0 w) := by dsimp only [dats]
theorem after_0 (hR : InRange m) (c : Dev nD) (t : Fin (cfgM m (ok_of_range hR)).N) : (dats m hR 0 c).after 0 t = Frame.filled0 m (ok_of_range hR) c t := by dsimp only [dats]; try rfl
theorem after_1 (hR : InRange m) (c : Dev nD) (t : Fin (cfgM m (ok_of_range hR)).N) : (dats m hR 0 c).after 1 t = blockAt m (ok_of_range hR) c 1 t := by dsimp only [dats]; try rfl
theorem after_2 (hR : InRange m) (c : Dev nD) (t : Fin (cfgM m (ok_of_range hR)).N) : (dats m hR 0 c).after 2 t = blockAt m (ok_of_range hR) c 2 t := by dsimp only [dats]; try rfl
theorem after_3 (hR : InRange m) (c : Dev nD) (t : Fin (cfgM m (ok_of_range hR)).N) : (dats m hR 0 c).after 3 t = blockAt m (ok_of_range hR) c 3 t := by dsimp only [dats]; try rfl
theorem after_4 (hR : InRange m) (c : Dev nD) (t : Fin (cfgM m (ok_of_range hR)).N) :
    (dats m hR 0 c).after 4 t = k0_pay2 (Frame.filled0 m (ok_of_range hR) c t) (weights m hR c) := by dsimp only [dats]; try rfl

theorem Phi_castSucc (hR : InRange m) (c : Dev nD) (t : Fin (cfgM m (ok_of_range hR)).N) :
    (dats m hR 0 c).Φ t.castSucc = held m hR c t.val (Nat.le_of_lt t.isLt) := by
  dsimp only [dats]; exact Pipeline.Dat.Φ_castSucc (held m hR c) t

/-- What the body finds in the inputs' buffers. -/
theorem before_0 (hR : InRange m) (c : Dev nD) (t : Fin (cfgM m (ok_of_range hR)).N) (d) :
    (dats m hR 0 c).before 0 t d = ((cfgM m (ok_of_range hR)).win 0).fill ((cfgM m (ok_of_range hR)).grid.coords t) d (blockAt m (ok_of_range hR) c 0 t) := by
  unfold Dat.before; rw [if_pos (fetch_0 (adm m (ok_of_range hR)) t)]; rfl
theorem before_1 (hR : InRange m) (c : Dev nD) (t : Fin (cfgM m (ok_of_range hR)).N) (d) : (dats m hR 0 c).before 1 t d = blockAt m (ok_of_range hR) c 1 t :=
  ((dats m hR 0 c).before_in_eq_fetched 1 rfl (fun _ => rfl) (fun _ _ _ => rfl) (fun t => by rw [after_1]; unfold Dat.blockOf; rw [A_eq]; try rfl) t d).trans
    (by unfold Dat.fetched Dat.blockOf; rw [A_eq]; try rfl)
theorem before_2 (hR : InRange m) (c : Dev nD) (t : Fin (cfgM m (ok_of_range hR)).N) (d) : (dats m hR 0 c).before 2 t d = blockAt m (ok_of_range hR) c 2 t :=
  ((dats m hR 0 c).before_in_eq_fetched 2 rfl (fun _ => rfl) (fun _ _ _ => rfl) (fun t => by rw [after_2]; unfold Dat.blockOf; rw [A_eq]; try rfl) t d).trans
    (by unfold Dat.fetched Dat.blockOf; rw [A_eq]; try rfl)
theorem before_3 (hR : InRange m) (c : Dev nD) (t : Fin (cfgM m (ok_of_range hR)).N) (d) : (dats m hR 0 c).before 3 t d = blockAt m (ok_of_range hR) c 3 t :=
  ((dats m hR 0 c).before_in_eq_fetched 3 rfl (fun _ => rfl) (fun _ _ _ => rfl) (fun t => by rw [after_3]; unfold Dat.blockOf; rw [A_eq]; try rfl) t d).trans
    (by unfold Dat.fetched Dat.blockOf; rw [A_eq]; try rfl)

/-! ## The rows inside the array -/

/-- A buffer filled with a block reads the block at an index the transfer moves, whatever it held. -/
theorem fill_moved {sg : RefSig} {G : Pipeline.Grid} (w : Pipeline.Window sg G) {α : Type} (i : G.Coords) (d d' : w.block.Idx → α) (g : (w.xblock i).Idx → α)
    (j : w.block.Idx) (h : w.moved i j = true) : w.fill i d g j = w.fill i d' g j := by
  unfold Pipeline.Window.fill; rw [dif_pos h, dif_pos h]

/-- A row of the result's block inside the array is a column of the staged input's block inside its array. -/
theorem moved_col (hO : Ok m) (t : Fin (cfgM m hO).N) (y : (((cfgM m hO).win 4).xblock ((cfgM m hO).grid.coords t)).Idx) (k : Fin 501) :
    ((cfgM m hO).win 0).moved ((cfgM m hO).grid.coords t) (ix2 k ((((cfgM m hO).win 4).xinj ((cfgM m hO).grid.coords t) y) (0 : Fin 2)) : S501x7168.Idx) = true := by
  refine (Pipeline.Window.moved_iff _ _ _).mpr fun a => ?_
  match a with
  | ⟨0, _⟩ => exact k.isLt
  | ⟨1, _⟩ => exact (y (0 : Fin 2)).isLt

/-- The part of the result's buffer that is written back reads only the staged input's columns inside the array:
    whatever fills that buffer past them, it is the same. -/
theorem cut_same (hO : Ok m) (c : Dev nD) (t : Fin (cfgM m hO).N) (w : Vec Ideal S501x128 .bf16) (d d' : Vec Ideal S501x7168 .f32) :
    Pipeline.Window.cut (α := Elt Ideal .f32) ((cfgM m hO).win 4) ((cfgM m hO).grid.coords t) (k0_pay2 (Pipeline.Window.fill (α := Elt Ideal .f32) ((cfgM m hO).win 0) ((cfgM m hO).grid.coords t) d (blockAt m hO c 0 t)) w)
      = Pipeline.Window.cut (α := Elt Ideal .f32) ((cfgM m hO).win 4) ((cfgM m hO).grid.coords t) (k0_pay2 (Pipeline.Window.fill (α := Elt Ideal .f32) ((cfgM m hO).win 0) ((cfgM m hO).grid.coords t) d' (blockAt m hO c 0 t)) w) := by
  funext y
  refine (pay2_apply _ w (((cfgM m hO).win 4).xinj ((cfgM m hO).grid.coords t) y)).trans (Eq.trans ?_ (pay2_apply _ w (((cfgM m hO).win 4).xinj ((cfgM m hO).grid.coords t) y)).symm)
  unfold entrySum
  refine congrArg (fun s : EReal => min (max s 0) 1) (Finset.sum_congr rfl fun k _ => congrArg (· * _) ?_)
  exact fill_moved _ _ _ _ _ _ (moved_col m hO t y k)

/-- So the buffer agrees with what the run's data says of it. -/
theorem fill_same (hO : Ok m) (c : Dev nD) (t : Fin (cfgM m hO).N) (w : Vec Ideal S501x128 .bf16) (d : Vec Ideal S501x7168 .f32) :
    Pipeline.Window.fill (α := Elt Ideal .f32) ((cfgM m hO).win 4) ((cfgM m hO).grid.coords t)
      (k0_pay2 (Pipeline.Window.fill (α := Elt Ideal .f32) ((cfgM m hO).win 0) ((cfgM m hO).grid.coords t) d (blockAt m hO c 0 t)) w)
      (Pipeline.Window.cut (α := Elt Ideal .f32) ((cfgM m hO).win 4) ((cfgM m hO).grid.coords t) (k0_pay2 (Frame.filled0 m hO c t) w))
      = k0_pay2 (Pipeline.Window.fill (α := Elt Ideal .f32) ((cfgM m hO).win 0) ((cfgM m hO).grid.coords t) d (blockAt m hO c 0 t)) w :=
  Pipeline.Window.fill_congr_cut _ _ (cut_same m hO c t w d _)

/-- The body keeps the invariant and leaves the result's rows, at every point. -/
theorem body_obligation (hR : InRange m) (c : Dev nD) :
    BodyObligationLoose (dats m hR 0 c) (defs₀ (F := Ideal)) Variants.none () Set.univ := fun t => by
  rw [bigSep_W0, bigSep_W0, body_row m (ok_of_range hR)]
  rw [show (dats m hR 0 c).owesAt () t.succ = (dats m hR 0 c).owesAt () t.castSucc from rfl, Phi_castSucc,
    show (dats m hR 0 c).Φ t.succ = held m hR c (t.val + 1) t.isLt from rfl, held_pos m hR c (t.val + 1) _ (Nat.succ_ne_zero _), PhiT_eq]
  rw [after_1, after_2, after_3]
  have hcut0 : ((cfgM m (ok_of_range hR)).win 0).cut ((cfgM m (ok_of_range hR)).grid.coords t) (Frame.filled0 m (ok_of_range hR) c t) = blockAt m (ok_of_range hR) c 0 t :=
    Pipeline.Window.cut_fill _ _ _ _
  by_cases hz : t.val = 0
  · rw [held_zero m hR c _ _ hz, PhiT_eq, PhiA_eq]
    iintro ⟨⟨⟨HS0, Hg⟩, HT0⟩, Ho, ⟨%d0, H0⟩, ⟨%d1, H1⟩, ⟨%d2, H2⟩, ⟨%d3, H3⟩, ⟨%d4, H4⟩⟩
    rw [before_0 m hR c t d0, before_1 m hR c t d1, before_2 m hR c t d2, before_3 m hR c t d3]
    iapply (body_first c (grid0.coords t) _ _ _ _ _ _ _ _ _ _ _ _ ((first_iff t).mpr hz)
      (((cfgM m (ok_of_range hR)).win 0).fill ((cfgM m (ok_of_range hR)).grid.coords t) d0 (blockAt m (ok_of_range hR) c 0 t))
      (blockAt m (ok_of_range hR) c 1 t) (blockAt m (ok_of_range hR) c 2 t) (blockAt m (ok_of_range hR) c 3 t) (tbl m 0) (chk_of_range hR c _) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    rw [weights_eq m hR c t hz]
    iintro ⟨H0, H1, H2, H3, H4, HS0, HT0⟩
    isplitl [HS0 Hg HT0]
    · isplitl [HS0 Hg]
      · isplitl [HS0]
        · iexact HS0
        iexact Hg
      iexact HT0
    isplitl [Ho]; · iexact Ho
    isplitl [H0]
    · iexists d0
      change _ ⊢ owns (c : Thread nD τ) (spec0_0.stage ((cfgM m (ok_of_range hR)).slots t 0)) fullShare (((cfgM m (ok_of_range hR)).win 0).fill ((cfgM m (ok_of_range hR)).grid.coords t) d0 (((cfgM m (ok_of_range hR)).win 0).cut ((cfgM m (ok_of_range hR)).grid.coords t) (Frame.filled0 m (ok_of_range hR) c t)))
      rw [hcut0]; try iexact H0
    isplitl [H1]; · iexact H1
    isplitl [H2]; · iexact H2
    isplitl [H3]; · iexact H3
    iexists (k0_pay2 (((cfgM m (ok_of_range hR)).win 0).fill ((cfgM m (ok_of_range hR)).grid.coords t) d0 (blockAt m (ok_of_range hR) c 0 t)) (weights m hR c))
    change _ ⊢ owns (c : Thread nD τ) (spec0_4.stage ((cfgM m (ok_of_range hR)).slots t 4)) fullShare (Pipeline.Window.fill (α := Elt Ideal .f32) ((cfgM m (ok_of_range hR)).win 4) ((cfgM m (ok_of_range hR)).grid.coords t)
      (k0_pay2 (Pipeline.Window.fill (α := Elt Ideal .f32) ((cfgM m (ok_of_range hR)).win 0) ((cfgM m (ok_of_range hR)).grid.coords t) d0 (blockAt m (ok_of_range hR) c 0 t)) (weights m hR c))
      (Pipeline.Window.cut (α := Elt Ideal .f32) ((cfgM m (ok_of_range hR)).win 4) ((cfgM m (ok_of_range hR)).grid.coords t) (k0_pay2 (Frame.filled0 m (ok_of_range hR) c t) (weights m hR c))))
    rw [fill_same m (ok_of_range hR) c t (weights m hR c) d0]
    try iexact H4
  · rw [held_pos m hR c _ _ hz, PhiT_eq]
    iintro ⟨⟨⟨HS0, Hg⟩, HT0⟩, Ho, ⟨%d0, H0⟩, ⟨%d1, H1⟩, ⟨%d2, H2⟩, ⟨%d3, H3⟩, ⟨%d4, H4⟩⟩
    rw [before_0 m hR c t d0, before_1 m hR c t d1, before_2 m hR c t d2, before_3 m hR c t d3]
    iapply (body_later c (grid0.coords t) _ _ _ _ _ _ _ _ _ _ _ _ (fun h => hz ((first_iff t).mp h))
      (((cfgM m (ok_of_range hR)).win 0).fill ((cfgM m (ok_of_range hR)).grid.coords t) d0 (blockAt m (ok_of_range hR) c 0 t))
      (blockAt m (ok_of_range hR) c 1 t) (blockAt m (ok_of_range hR) c 2 t) (blockAt m (ok_of_range hR) c 3 t) (tbl m 0) (weights m hR c) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    iintro ⟨H0, H1, H2, H3, H4, HS0, HT0⟩
    isplitl [HS0 Hg HT0]
    · isplitl [HS0 Hg]
      · isplitl [HS0]
        · iexact HS0
        iexact Hg
      iexact HT0
    isplitl [Ho]; · iexact Ho
    isplitl [H0]
    · iexists d0
      change _ ⊢ owns (c : Thread nD τ) (spec0_0.stage ((cfgM m (ok_of_range hR)).slots t 0)) fullShare (((cfgM m (ok_of_range hR)).win 0).fill ((cfgM m (ok_of_range hR)).grid.coords t) d0 (((cfgM m (ok_of_range hR)).win 0).cut ((cfgM m (ok_of_range hR)).grid.coords t) (Frame.filled0 m (ok_of_range hR) c t)))
      rw [hcut0]; try iexact H0
    isplitl [H1]; · iexact H1
    isplitl [H2]; · iexact H2
    isplitl [H3]; · iexact H3
    iexists (k0_pay2 (((cfgM m (ok_of_range hR)).win 0).fill ((cfgM m (ok_of_range hR)).grid.coords t) d0 (blockAt m (ok_of_range hR) c 0 t)) (weights m hR c))
    change _ ⊢ owns (c : Thread nD τ) (spec0_4.stage ((cfgM m (ok_of_range hR)).slots t 4)) fullShare (Pipeline.Window.fill (α := Elt Ideal .f32) ((cfgM m (ok_of_range hR)).win 4) ((cfgM m (ok_of_range hR)).grid.coords t)
      (k0_pay2 (Pipeline.Window.fill (α := Elt Ideal .f32) ((cfgM m (ok_of_range hR)).win 0) ((cfgM m (ok_of_range hR)).grid.coords t) d0 (blockAt m (ok_of_range hR) c 0 t)) (weights m hR c))
      (Pipeline.Window.cut (α := Elt Ideal .f32) ((cfgM m (ok_of_range hR)).win 4) ((cfgM m (ok_of_range hR)).grid.coords t) (k0_pay2 (Frame.filled0 m (ok_of_range hR) c t) (weights m hR c))))
    rw [fill_same m (ok_of_range hR) c t (weights m hR c) d0]
    try iexact H4

/-! ## The run -/

/-- At the start the invariant is what the launch hands over. -/
theorem start (hR : InRange m) (c : Dev nD) : iprop(Pipeline.ΦA spec0 c ∗ Pipeline.ΦT pre0 (tbl m) c) ⊢ (dats m hR 0 c).Φ 0 := by
  rw [show (dats m hR 0 c).Φ 0 = held m hR c 0 (Nat.zero_le _) from rfl, held_zero m hR c 0 _ rfl]
  try exact Idealize.SL.BI.Entails.refl _

/-- At the end the scratch's contents are forgotten. -/
theorem finish (hR : InRange m) (c : Dev nD) : (dats m hR 0 c).Φ (Fin.last (cfgM m (ok_of_range hR)).N) ⊢ Pipeline.ΦA spec0 c := by
  have hN : (Fin.last (cfgM m (ok_of_range hR)).N).val ≠ 0 := by rw [Fin.val_last]; have : (cfgM m (ok_of_range hR)).N = 6 := N_0; omega
  rw [show (dats m hR 0 c).Φ (Fin.last (cfgM m (ok_of_range hR)).N) = held m hR c (Fin.last (cfgM m (ok_of_range hR)).N).val (Nat.le_of_lt_succ (Fin.last _).isLt) from rfl,
    held_pos m hR c _ _ hN, PhiA_eq]
  iintro ⟨⟨HS0, Hg⟩, -⟩
  isplitl [HS0]
  · iexists _; iexact HS0
  iexact Hg

-- the launch theorem's implicit arguments are found by unifying its conclusion with this one, which takes unfolding
-- plain definitions in a metavariable's type
set_option backward.isDefEq.respectTransparency.types false in
set_option maxHeartbeats 800000 in
/-- The run: the call's arrays end as the proof data says, every other buffer as the lines after the call leave it,
    and every counter is zero. -/
theorem run_main (ρ : Dev nD → PrngReg) (hR : InRange m) :
    θ_run (defs (F := Ideal)) (onTc (τ := τ) (main (F := Ideal))) ⟨m, fun _ => 0, ρ⟩ (fun r =>
      Pipeline.FramePost (Pipeline.pin (pcfgs (F := Ideal)) (fun _ => adm m (ok_of_range hR))) (dats m hR) 0 (Pipeline.afterTail pcfgs (fun _ => adm m (ok_of_range hR)) (dats m hR) 0 (entry m) [hostOps1]) r
        ∧ r.2.sem = fun _ => 0) :=
  Pipeline.θ_run_frameP_around_track (Q' := _) pcfgs (fun _ => adm m (ok_of_range hR)) (dats m hR) (0 : Fin 1) launch0 defs₀ Variants.none m ρ main
    (hbody := fun c => body_obligation m hR c)
    (hshare := fun c => (dats m hR 0 c).share_full fun _ => rfl)
    (howed := fun _ _ => rfl)
    (V₀ := entry m)
    (opss := [hostOps1])
    (hsub := tail_sub)
    (hfresh := tail_fresh)
    (hkeep := tail_keeps)
    (hmain := main_around m Variants.none)
    (hA := A_eq m hR)
    (hpf := entry_pre m)
    (hin := start m hR)
    (hout := finish m hR)

end Value

end Cert.KernelIdeal.Hand

end
-- ==== Proof.KernelIdealResult.lean ====
/-
  What `KernelIdeal` leaves in the call's result array and, reshaped, in the program's result: at row `r` and lane `l`
  the clamped sum over the 501 columns of the input's row `r` against the weights' lane `l`.
-/
module

public import proofs.«01_k».proof.Proof.KernelIdealRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

namespace Value

/-- The input as the call finds it: the argument transposed. -/
def inputT (c : Dev nD) : Vec Ideal S501x40000 .f32 := entryAt m c main_v0

/-- The call's result array as it ends. -/
def rows (hR : InRange m) (c : Dev nD) : Vec Ideal S40000x128 .f32 := fun i =>
  min (max (∑ k : Fin 501, (inputT m c (ix2 k (i 0)) : EReal) * (weights m hR c (ix2 k (i 1)) : EReal)) 0) 1

/-- Point `t`'s block of the result starts at row `7168 t`, and of the input at column `7168 t`. -/
theorem index_rows : ∀ t : Fin grid0.N, cc0_transform_4 (grid0.coords t) = ![t.val, 0] := by decide +kernel
theorem index_cols : ∀ t : Fin grid0.N, cc0_transform_0 (grid0.coords t) = ![0, t.val] := by decide +kernel
/-- A block is whole or ends at the array's end. -/
theorem extent_rows : ∀ t : Fin grid0.N, (Pipeline.Clip.of t.val 7168 40000).extent 7168 = 7168 ∨ 40000 ≤ t.val * 7168 + (Pipeline.Clip.of t.val 7168 40000).extent 7168 := by decide +kernel

/-- The six blocks cover the result array. -/
theorem covers (hO : Ok m) : ((cfgM m hO).win (4 : Fin 5)).Covers := by
  refine ⟨fun a => ?_, fun β => ?_⟩
  · match a with
    | ⟨0, _⟩ => exact (by decide : 0 < 7168)
    | ⟨1, _⟩ => exact (by decide : 0 < 128)
  have hβ0 : (β (0 : Fin 2)).val < 6 := lt_of_lt_of_eq (β (0 : Fin 2)).isLt (show (40000 + 7168 - 1) / 7168 = 6 by decide)
  have hβ1 : (β (1 : Fin 2)).val < 1 := lt_of_lt_of_eq (β (1 : Fin 2)).isLt (show (128 + 128 - 1) / 128 = 1 by decide)
  have hN : grid0.N = 6 := N_0
  refine ⟨(⟨(β (0 : Fin 2)).val, hN ▸ hβ0⟩ : Fin grid0.N), flush_4 _ _, fun a => ?_⟩
  have hi := index_rows ⟨(β (0 : Fin 2)).val, hN ▸ hβ0⟩
  have he := extent_rows ⟨(β (0 : Fin 2)).val, hN ▸ hβ0⟩
  match a with
  | ⟨0, _⟩ =>
    have hi0 := congrFun hi (0 : Fin 2)
    refine ⟨hi0, ?_⟩
    change (Pipeline.Clip.of (cc0_transform_4 (grid0.coords ⟨(β (0 : Fin 2)).val, hN ▸ hβ0⟩) (0 : Fin 2)) 7168 40000).extent 7168 = 7168
      ∨ 40000 ≤ cc0_transform_4 (grid0.coords ⟨(β (0 : Fin 2)).val, hN ▸ hβ0⟩) (0 : Fin 2) * 7168 + (Pipeline.Clip.of (cc0_transform_4 (grid0.coords ⟨(β (0 : Fin 2)).val, hN ▸ hβ0⟩) (0 : Fin 2)) 7168 40000).extent 7168
    rw [hi0]
    exact he
  | ⟨1, _⟩ =>
    have hi1 := congrFun hi (1 : Fin 2)
    refine ⟨hi1.trans (show (0 : ℕ) = (β (1 : Fin 2)).val by omega), .inl ?_⟩
    change (Pipeline.Clip.of (cc0_transform_4 (grid0.coords ⟨(β (0 : Fin 2)).val, hN ▸ hβ0⟩) (1 : Fin 2)) 128 128).extent 128 = 128
    rw [hi1]
    exact (by decide : (Pipeline.Clip.of 0 128 128).extent 128 = 128)

/-- The array ends as `rows`. -/
theorem result_array (hR : InRange m) (c : Dev nD) :
    (dats m hR 0 c).arrAt (4 : Fin 5) (cfgM m (ok_of_range hR)).N = rows m hR c := by
  refine (dats m hR 0 c).arrAt_eq_of_covers (4 : Fin 5) (rows m hR c) (covers m _) fun t hf y => ?_
  rw [after_4]
  refine (pay2_apply _ (weights m hR c) (((cfgM m (ok_of_range hR)).win 4).xinj ((cfgM m (ok_of_range hR)).grid.coords t) y)).trans ?_
  unfold entrySum rows
  refine congrArg (fun s : EReal => min (max s 0) 1) (Finset.sum_congr rfl fun k _ => ?_)
  refine congr (congrArg HMul.hMul ?_) ?_
  · unfold Frame.filled0 Pipeline.Window.fill
    refine (dif_pos (moved_col m (ok_of_range hR) t y k)).trans ?_
    refine congrArg (inputT m c) (funext fun a => Fin.ext ?_)
    match a with
    | ⟨0, _⟩ =>
      change cc0_transform_0 (grid0.coords t) (0 : Fin 2) * 501 + 1 * k.val = k.val
      rw [show cc0_transform_0 (grid0.coords t) (0 : Fin 2) = 0 from congrFun (index_cols t) 0]; omega
    | ⟨1, _⟩ =>
      change cc0_transform_0 (grid0.coords t) (1 : Fin 2) * 7168 + 1 * (y (0 : Fin 2)).val = cc0_transform_4 (grid0.coords t) (0 : Fin 2) * 7168 + 1 * (y (0 : Fin 2)).val
      rw [show cc0_transform_0 (grid0.coords t) (1 : Fin 2) = t.val from congrFun (index_cols t) 1,
        show cc0_transform_4 (grid0.coords t) (0 : Fin 2) = t.val from congrFun (index_rows t) 0]
  · refine congrArg (weights m hR c) (funext fun a => Fin.ext ?_)
    match a with
    | ⟨0, _⟩ => rfl
    | ⟨1, _⟩ =>
      change (y (1 : Fin 2)).val = cc0_transform_4 (grid0.coords t) (1 : Fin 2) * 128 + 1 * (y (1 : Fin 2)).val
      rw [show cc0_transform_4 (grid0.coords t) (1 : Fin 2) = 0 from congrFun (index_rows t) 1]; omega

/-- The input as the call finds it, at an index. -/
theorem inputT_apply (c : Dev nD) (k : Fin 501) (r : Fin 40000) :
    inputT m c (ix2 k r) = (m ((c : Thread nD τ).loc main_arg0) : Vec Ideal S40000x501 .f32) (ix2 r k) := by
  have h : inputT m c = transpose S501x40000 [1, 0] (m ((c : Thread nD τ).loc main_arg0) : Vec Ideal S40000x501 .f32) transposes_S40000x501_S501x40000_1_0 := by
    simp only [inputT, entryAt, entry, hostOps0, List.flatten_cons, List.flatten_nil, List.append_nil, StableHlo.after_cons, StableHlo.after_nil]
    rw [StableHlo.reshape_result_ne, StableHlo.unary_result_ne, StableHlo.unary_result]
    · decide
    · decide
  rw [h]
  simp only [pointwise]

/-- The run: the program's result is `rows` reshaped. -/
theorem result_run (ρ : Dev nD → PrngReg) (hR : InRange m) :
    θ_run (defs (F := Ideal)) (onTc (τ := τ) (main (F := Ideal))) ⟨m, fun _ => 0, ρ⟩ (fun r => ∀ c : Dev nD,
      r.2.mem ((c : Thread nD τ).loc main_v4) = (shapeCast S10000x4x128 (rows m hR c) shapeCasts_S40000x128_S10000x4x128 : Vec Ideal S10000x4x128 .f32)) := by
  refine (θ_run defs _ _).mono (fun r h c => ?_) (run_main m ρ hR)
  refine ((h.1 c).2 main_v4 (show main_v4 ∈ Pipeline.restRefs sig spec0 by decide)).trans ?_
  unfold Pipeline.afterTail
  simp only [hostOps1, List.flatten_cons, List.flatten_nil, List.append_nil, StableHlo.after_cons, StableHlo.after_nil]
  rw [StableHlo.reshape_result]
  refine congrArg (fun x : Vec Ideal S40000x128 .f32 => (shapeCast S10000x4x128 x shapeCasts_S40000x128_S10000x4x128 : Vec Ideal S10000x4x128 .f32)) ?_
  refine (Pipeline.withArrays_arr spec0 ?_ c _ _ (4 : Fin 5)).trans (result_array m hR c)
  decide

end Value

end Cert.KernelIdeal.Hand

end
-- ==== Proof.Mix.lean ====
/-
  The mixing weights in the extended reals, on one column of 250: the kernel multiplies an exponential by gate over sum,
  the reference divides the exponential by the sum and multiplies by the gate. They agree where the column is finite: the
  sum is then not zero, and a quotient by it is a product with its inverse.
-/
module

public import Idealize.ShloMosaic.PureOps.Ideal

@[expose] public section

noncomputable section

namespace Cert.Mix

open Idealize.ShloMosaic

/-- The column's greatest entry. -/
def top (f : Fin 250 → EReal) : EReal := Finset.univ.fold max ⊥ f

/-- The exponential of an entry's difference from the greatest. -/
def power (f : Fin 250 → EReal) (k : Fin 250) : EReal := Ideal.exp (f k - top f)

/-- The sum of the exponentials. -/
def mass (f : Fin 250 → EReal) : EReal := ∑ k, power f k

/-- The last row's entry from the two gates. -/
def rest (a b : EReal) : EReal := 1 - min (max (a + b) 0) 1

/-- An exponential is never below zero. -/
theorem exp_nonneg (x : EReal) : 0 ≤ Ideal.exp x := by
  induction x using EReal.rec with
  | bot => simp
  | coe r => rw [Ideal.exp_coe]; exact_mod_cast (Real.exp_pos r).le
  | top => simp

/-- Above the least value it is positive. -/
theorem exp_pos {x : EReal} (h : x ≠ ⊥) : 0 < Ideal.exp x := by
  induction x using EReal.rec with
  | bot => exact absurd rfl h
  | coe r => rw [Ideal.exp_coe]; exact_mod_cast Real.exp_pos r
  | top => simp

/-- The greatest entry of a column without infinities from above is not infinite from above. -/
theorem top_lt {f : Fin 250 → EReal} (h : ∀ k, f k ≠ ⊤) : top f < ⊤ :=
  (Finset.fold_max_lt ⊤).2 ⟨bot_lt_top, fun k _ => lt_top_iff_ne_top.2 (h k)⟩

/-- The sum over a finite column is positive. -/
theorem mass_pos {f : Fin 250 → EReal} (h : ∀ k, f k ≠ ⊤ ∧ f k ≠ ⊥) : 0 < mass f := by
  have ht := top_lt fun k => (h k).1
  have h0 : 0 < power f 0 := exp_pos fun e => by
    rw [sub_eq_add_neg] at e
    rcases EReal.add_eq_bot_iff.1 e with e | e
    · exact (h 0).2 e
    · exact ht.ne (EReal.neg_eq_bot_iff.1 e)
  exact h0.trans_le (Finset.single_le_sum (f := power f) (fun k _ => exp_nonneg _) (Finset.mem_univ 0))

/-- Exponential times gate over sum is exponential over sum, times gate. -/
theorem scaled_eq {f : Fin 250 → EReal} (h : ∀ k, f k ≠ ⊤ ∧ f k ≠ ⊥) (a : EReal) (k : Fin 250) :
    power f k * Ideal.div a (mass f) = Ideal.div (power f k) (mass f) * a := by
  have h0 : mass f ≠ 0 := (mass_pos h).ne'
  rw [Ideal.div, Ideal.div, if_neg h0, if_neg h0, mul_comm a, mul_assoc]

end Cert.Mix

end
-- ==== Proof.KernelIdealWeights.lean ====
/- What the kernel's mixing weights hold at each row: a softmax of a half of the weights, scaled by a gate, or the last row. -/
module

public import proofs.«01_k».proof.Proof.KernelIdealBlock
public import proofs.«01_k».proof.Proof.Mix

@[expose] public section

set_option maxRecDepth 16384

noncomputable section

namespace Cert.KernelIdeal.Hand

open Cert.KernelIdeal Cert.KernelIdeal.Gen
open Idealize.ShloMosaic Idealize.ShloMosaic.TcCoe
open Idealize.SL.Sem

/-- A half's exponentials of the differences from the column's greatest entry. -/
def powersOf (x : FVec Ideal S250x128 .f32) : FVec Ideal S250x128 .f32 :=
  exp (subf x (broadcastTo S250x128 (shapeCast S1x128 (multiReduction .maximumf [0] S128 x 0xFF800000#32 reduces_S250x128_S128 (.inl rfl) rfl)
    shapeCasts_S128_S1x128) broadcasts_S1x128_S250x128))

/-- A half's part of the weights: the exponentials times the gate over their sum. -/
def scaledHalf (a : FVec Ideal S1x128 .f32) (x : FVec Ideal S250x128 .f32) : FVec Ideal S250x128 .f32 :=
  mulf (powersOf x) (broadcastTo S250x128 (divf a (shapeCast S1x128
    (multiReduction .add [0] S128 (powersOf x) 0x00000000#32 reduces_S250x128_S128 (.inl rfl) rfl) shapeCasts_S128_S1x128)) broadcasts_S1x128_S250x128)

/-- The last row: one minus the clamped sum of the gates. -/
def lastRow (a b : FVec Ideal S1x128 .f32) : FVec Ideal S1x128 .f32 :=
  subf (broadcast S1x128 (Scalar.ofBits .f32 0x3F800000#32)) (minimumf (maximumf (addf a b) (broadcast S1x128 (Scalar.ofBits .f32 0x00000000#32)))
    (broadcast S1x128 (Scalar.ofBits .f32 0x3F800000#32)))

/-- A gate from its block. -/
def gateRow (a : Vec Ideal S1x1x128 .f32) : FVec Ideal S1x128 .f32 := logistic (shapeCast S1x128 a shapeCasts_S1x1x128_S1x128)

/-- The two halves of the block of weights. -/
def upper (w : Vec Ideal S500x1x128 .f32) : FVec Ideal S250x128 .f32 :=
  extractStridedSlice S250x128 ![0, 0] (shapeCast S500x128 w shapeCasts_S500x1x128_S500x128) slices_S500x128_o0_0_S250x128
def lower (w : Vec Ideal S500x1x128 .f32) : FVec Ideal S250x128 .f32 :=
  extractStridedSlice S250x128 ![250, 0] (shapeCast S500x128 w shapeCasts_S500x1x128_S500x128) slices_S500x128_o250_0_S250x128

/-- The three parts, one below another. -/
def stacked (x y : FVec Ideal S250x128 .f32) (z : FVec Ideal S1x128 .f32) : FVec Ideal S501x128 .f32 :=
  concatenate S501x128 0 [⟨S250x128, x⟩, ⟨S250x128, y⟩, ⟨S1x128, z⟩] concatenates_S250x128_S250x128_S1x128_S501x128_d0

/-- What the body computes from the two gates' blocks and the block of weights. -/
theorem pay3_eq (a b : Vec Ideal S1x1x128 .f32) (w : Vec Ideal S500x1x128 .f32) :
    k0_pay3 a b w = stacked (scaledHalf (gateRow a) (upper w)) (scaledHalf (gateRow b) (lower w)) (lastRow (gateRow a) (gateRow b)) := rfl

/-- The word of minus infinity. -/
theorem neg_inf : Ideal.ofBits .f32 0xFF800000#32 = ⊥ := by simp [Ideal.ofBits, Ideal.ieee]

/-- The upper half at an index. -/
theorem upper_apply (w : Vec Ideal S500x1x128 .f32) (k : Fin 250) (l : Fin 128) : upper w (ix2 k l) = w (ix3 (⟨k.val, by omega⟩ : Fin 500) 0 l) := by
  unfold upper
  simp only [pointwise]
  congr 2 <;> exact Fin.ext (Nat.zero_add _)

/-- The lower half at an index. -/
theorem lower_apply (w : Vec Ideal S500x1x128 .f32) (k : Fin 250) (l : Fin 128) : lower w (ix2 k l) = w (ix3 (⟨250 + k.val, by omega⟩ : Fin 500) 0 l) := by
  unfold lower
  simp only [pointwise]
  congr 2
  exact Fin.ext (Nat.zero_add _)

/-- A gate at an index. -/
theorem gateRow_apply (a : Vec Ideal S1x1x128 .f32) (k : Fin 1) (l : Fin 128) : gateRow a (ix2 k l) = Ideal.logistic (a (ix3 0 0 l)) := by
  unfold gateRow
  simp only [pointwise]

/-- A scaled half at an index: the column's exponential times gate over sum. -/
theorem scaledHalf_apply (a : FVec Ideal S1x128 .f32) (x : FVec Ideal S250x128 .f32) (k : Fin 250) (l : Fin 128) :
    scaledHalf a x (ix2 k l) = Cert.Mix.power (fun j => x (ix2 j l)) k * Ideal.div (a (ix2 0 l)) (Cert.Mix.mass fun j => x (ix2 j l)) := by
  unfold scaledHalf powersOf
  simp only [pointwise]
  rw [neg_inf]
  rfl

/-- The last row at an index. -/
theorem lastRow_apply (a b : FVec Ideal S1x128 .f32) (k : Fin 1) (l : Fin 128) :
    lastRow a b (ix2 k l) = Cert.Mix.rest (a (ix2 k l)) (b (ix2 k l)) := by
  unfold lastRow
  simp only [pointwise]
  rfl

section Stacked
variable (x y : FVec Ideal S250x128 .f32) (z : FVec Ideal S1x128 .f32) (k : Fin 250) (l : Fin 128)

/-- The stack's first 250 rows are the first part. -/
theorem stacked_first : stacked x y z (ix2 (⟨k.val, by omega⟩ : Fin 501) l) = x (ix2 k l) :=
  concatenate_apply_piece 0 [⟨S250x128, x⟩, ⟨S250x128, y⟩, ⟨S1x128, z⟩] concatenates_S250x128_S250x128_S1x128_S501x128_d0 _ 0 (by decide : 0 < 3) S250x128 x rfl rfl 0 rfl (ix2 k l)
    (fun b hb => by fin_cases b; exacts [absurd rfl hb, rfl]) (Nat.zero_add _)

/-- The next 250 are the second part. -/
theorem stacked_second : stacked x y z (ix2 (⟨250 + k.val, by omega⟩ : Fin 501) l) = y (ix2 k l) :=
  concatenate_apply_piece 0 [⟨S250x128, x⟩, ⟨S250x128, y⟩, ⟨S1x128, z⟩] concatenates_S250x128_S250x128_S1x128_S501x128_d0 _ 1 (by decide : 1 < 3) S250x128 y rfl rfl 250 rfl (ix2 k l)
    (fun b hb => by fin_cases b; exacts [absurd rfl hb, rfl]) rfl

/-- The last is the third. -/
theorem stacked_last : stacked x y z (ix2 (⟨500, by omega⟩ : Fin 501) l) = z (ix2 0 l) :=
  concatenate_apply_piece 0 [⟨S250x128, x⟩, ⟨S250x128, y⟩, ⟨S1x128, z⟩] concatenates_S250x128_S250x128_S1x128_S501x128_d0 _ 2 (by decide : 2 < 3) S1x128 z rfl rfl 500 rfl (ix2 0 l)
    (fun b hb => by fin_cases b; exacts [absurd rfl hb, rfl]) rfl

end Stacked

section Rows
variable (a b : Vec Ideal S1x1x128 .f32) (w : Vec Ideal S500x1x128 .f32) (k : Fin 250) (l : Fin 128)

/-- The weights' first 250 rows. -/
theorem pay3_first : k0_pay3 a b w (ix2 (⟨k.val, by omega⟩ : Fin 501) l) =
    Cert.Mix.power (fun j => w (ix3 (⟨j.val, by omega⟩ : Fin 500) 0 l)) k
      * Ideal.div (Ideal.logistic (a (ix3 0 0 l))) (Cert.Mix.mass fun j => w (ix3 (⟨j.val, by omega⟩ : Fin 500) 0 l)) := by
  rw [pay3_eq, stacked_first, scaledHalf_apply, gateRow_apply]
  simp only [upper_apply]

/-- The next 250 rows. -/
theorem pay3_second : k0_pay3 a b w (ix2 (⟨250 + k.val, by omega⟩ : Fin 501) l) =
    Cert.Mix.power (fun j => w (ix3 (⟨250 + j.val, by omega⟩ : Fin 500) 0 l)) k
      * Ideal.div (Ideal.logistic (b (ix3 0 0 l))) (Cert.Mix.mass fun j => w (ix3 (⟨250 + j.val, by omega⟩ : Fin 500) 0 l)) := by
  rw [pay3_eq, stacked_second, scaledHalf_apply, gateRow_apply]
  simp only [lower_apply]

/-- The last row. -/
theorem pay3_last : k0_pay3 a b w (ix2 (⟨500, by omega⟩ : Fin 501) l) =
    Cert.Mix.rest (Ideal.logistic (a (ix3 0 0 l))) (Ideal.logistic (b (ix3 0 0 l))) := by
  rw [pay3_eq, stacked_last, lastRow_apply, gateRow_apply, gateRow_apply]

end Rows

end Cert.KernelIdeal.Hand

end
-- ==== Proof.KernelIdealLayer.lean ====
/-
  The weights the kernel leaves in its scratch, in terms of the arguments: at the time step's layer, each half's columns of
  the stacked weights, and the first line of each gate.
-/
module

public import proofs.«01_k».proof.Proof.KernelIdealResult
public import proofs.«01_k».proof.Proof.KernelIdealWeights

@[expose] public section

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

namespace Value

/-- The two rows' words. -/
theorem word_row {w : BitVec 32} {s : Fin 2} (hs : w = BitVec.ofNat 32 s.val) : w.toNat = s.val := by
  subst hs
  revert s
  decide

/-- The block of the first gate's argument, where the body reads it. -/
theorem block_gate1 (hR : InRange m) (c : Dev nD) (s : Fin 2) (hs : timeStep m = BitVec.ofNat 32 s.val) (l : Fin 128) :
    blockAt m (ok_of_range hR) c 2 t0_0 ((Rect.unit (s := S1x2x128) ![0, 0, 0] S1x1x128.size inb_S1x2x128_S1x1x128_0_0_0).toLoadRect.idx (ix3 0 0 l))
      = (m ((c : Thread nD τ).loc main_arg9) : Vec Ideal S2x2x128 .f32) (ix3 s 0 l) := by
  refine Eq.trans (congrArg (entryAt m c main_arg9) (funext fun a => Fin.ext ?_)) (congrFun (entryAt_of_ne m c main_arg9 (by decide) (by decide) (by decide)) _)
  match a with
  | ⟨0, _⟩ =>
    change ((tbl m).at 0 (Rect.unit (s := S1) ![0] S1.size inb_S1_S1_0) numel1_S1).toNat * 1 + 1 * 0 = s.val
    rw [tbl_at, word_row hs]; omega
  | ⟨1, _⟩ => rfl
  | ⟨2, _⟩ =>
    change 0 * 128 + 1 * (0 + 1 * l.val) = l.val
    omega

/-- The block of the second gate's argument, where the body reads it. -/
theorem block_gate2 (hR : InRange m) (c : Dev nD) (s : Fin 2) (hs : timeStep m = BitVec.ofNat 32 s.val) (l : Fin 128) :
    blockAt m (ok_of_range hR) c 3 t0_0 ((Rect.unit (s := S1x2x128) ![0, 0, 0] S1x1x128.size inb_S1x2x128_S1x1x128_0_0_0).toLoadRect.idx (ix3 0 0 l))
      = (m ((c : Thread nD τ).loc main_arg10) : Vec Ideal S2x2x128 .f32) (ix3 s 0 l) := by
  refine Eq.trans (congrArg (entryAt m c main_arg10) (funext fun a => Fin.ext ?_)) (congrFun (entryAt_of_ne m c main_arg10 (by decide) (by decide) (by decide)) _)
  match a with
  | ⟨0, _⟩ =>
    change ((tbl m).at 0 (Rect.unit (s := S1) ![0] S1.size inb_S1_S1_0) numel1_S1).toNat * 1 + 1 * 0 = s.val
    rw [tbl_at, word_row hs]; omega
  | ⟨1, _⟩ => rfl
  | ⟨2, _⟩ =>
    change 0 * 128 + 1 * (0 + 1 * l.val) = l.val
    omega

/-- The block of the stacked weights, where the body reads it. -/
theorem block_weights (hR : InRange m) (c : Dev nD) (s : Fin 2) (hs : timeStep m = BitVec.ofNat 32 s.val) (k : Fin 500) (l : Fin 128) (h) :
    blockAt m (ok_of_range hR) c 1 t0_0 ((Rect.unit (s := S500x2x128) (k0_off1 (wordOf c (tbl m 0))) S500x1x128.size h).toLoadRect.idx (ix3 k 0 l))
      = (m ((c : Thread nD τ).loc main_arg6) : Vec Ideal S2x128x500 .f32) (ix3 s l k) := by
  have e : entryAt m c main_v1 = transpose S500x2x128 [2, 0, 1] (m ((c : Thread nD τ).loc main_arg6) : Vec Ideal S2x128x500 .f32) transposes_S2x128x500_S500x2x128_2_0_1 := by
    simp only [entryAt, entry, hostOps0, List.flatten_cons, List.flatten_nil, List.append_nil, StableHlo.after_cons, StableHlo.after_nil]
    rw [StableHlo.reshape_result_ne, StableHlo.unary_result]
    · rw [StableHlo.unary_result_ne]
      decide
    · decide
  have e' : (transpose S500x2x128 [2, 0, 1] (m ((c : Thread nD τ).loc main_arg6) : Vec Ideal S2x128x500 .f32) transposes_S2x128x500_S500x2x128_2_0_1) (ix3 k s l)
      = (m ((c : Thread nD τ).loc main_arg6) : Vec Ideal S2x128x500 .f32) (ix3 s l k) := by
    simp only [pointwise]
  refine Eq.trans (congrArg (entryAt m c main_v1) (funext fun a => Fin.ext ?_)) ((congrFun e (ix3 k s l)).trans e')
  match a with
  | ⟨0, _⟩ =>
    change 0 * 500 + 1 * (0 + 1 * k.val) = k.val
    omega
  | ⟨1, _⟩ =>
    change 0 * 2 + 1 * (k0_off1 (wordOf c (tbl m 0)) 1 + 1 * 0) = s.val
    rw [wordOf_tbl]
    change 0 * 2 + 1 * ((timeStep m).toNat + 1 * 0) = s.val
    rw [word_row hs]; omega
  | ⟨2, _⟩ =>
    change 0 * 128 + 1 * (0 + 1 * l.val) = l.val
    omega

/-- Column `l` of the stacked weights' layer `s`: its first half, and its second. -/
def colFirst (c : Dev nD) (s : Fin 2) (l : Fin 128) (j : Fin 250) : EReal :=
  (m ((c : Thread nD τ).loc main_arg6) : Vec Ideal S2x128x500 .f32) (ix3 s l (⟨j.val, by omega⟩ : Fin 500))
def colSecond (c : Dev nD) (s : Fin 2) (l : Fin 128) (j : Fin 250) : EReal :=
  (m ((c : Thread nD τ).loc main_arg6) : Vec Ideal S2x128x500 .f32) (ix3 s l (⟨250 + j.val, by omega⟩ : Fin 500))

/-- The two gates at layer `s` and lane `l`. -/
def gate1 (c : Dev nD) (s : Fin 2) (l : Fin 128) : EReal :=
  Ideal.logistic ((m ((c : Thread nD τ).loc main_arg9) : Vec Ideal S2x2x128 .f32) (ix3 s 0 l))
def gate2 (c : Dev nD) (s : Fin 2) (l : Fin 128) : EReal :=
  Ideal.logistic ((m ((c : Thread nD τ).loc main_arg10) : Vec Ideal S2x2x128 .f32) (ix3 s 0 l))

variable (hR : InRange m) (c : Dev nD) (s : Fin 2) (hs : timeStep m = BitVec.ofNat 32 s.val) (k : Fin 250) (l : Fin 128)
include hs

/-- The weights' first 250 rows. -/
theorem weights_first : weights m hR c (ix2 (⟨k.val, by omega⟩ : Fin 501) l) =
    Cert.Mix.power (colFirst m c s l) k * Ideal.div (gate1 m c s l) (Cert.Mix.mass (colFirst m c s l)) := by
  unfold weights weightsOf k0_pay1
  simp only [shapeCast_self]
  rw [pay3_first, block_gate1 m hR c s hs]
  simp only [block_weights m hR c s hs]
  rfl

/-- The next 250. -/
theorem weights_second : weights m hR c (ix2 (⟨250 + k.val, by omega⟩ : Fin 501) l) =
    Cert.Mix.power (colSecond m c s l) k * Ideal.div (gate2 m c s l) (Cert.Mix.mass (colSecond m c s l)) := by
  unfold weights weightsOf k0_pay1
  simp only [shapeCast_self]
  rw [pay3_second, block_gate2 m hR c s hs]
  simp only [block_weights m hR c s hs]
  rfl

/-- The last. -/
theorem weights_last : weights m hR c (ix2 (⟨500, by omega⟩ : Fin 501) l) = Cert.Mix.rest (gate1 m c s l) (gate2 m c s l) := by
  unfold weights weightsOf k0_pay1
  simp only [shapeCast_self]
  rw [pay3_last, block_gate1 m hR c s hs, block_gate2 m hR c s hs]
  rfl

end Value

end Cert.KernelIdeal.Hand

end
-- ==== Proof.RefWeights.lean ====
/- What the reference's weights hold at each row, in the extended reals. -/
module

public import proofs.«01_k».proof.Proof.RefRun
public import proofs.«01_k».proof.Proof.Mix
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen Idealize.ShloMosaic Idealize.ShloMosaic.TcCoe Idealize.SL.Sem

/-- A layer's index is not below zero: it stands. -/
theorem wrapped_apply {t : C Ideal S_ .i32} {s : Fin 2} (hs : t (fun a => a.elim0) = BitVec.ofNat 32 s.val) (i : S_.Idx) :
    wrapped (F := Ideal) t i = BitVec.ofNat 32 s.val := by
  have key : ∀ s : Fin 2, Scalar.select (IntOp.cmpi .slt (BitVec.ofNat 32 s.val) 0#32) (IntOp.addi (BitVec.ofNat 32 s.val) 2#32) (BitVec.ofNat 32 s.val) = BitVec.ofNat 32 s.val := by decide
  obtain rfl : i = fun a => a.elim0 := funext fun a => a.elim0
  refine Eq.trans ?_ (key s)
  rw [← hs]
  rfl

/-- The origin stands too. -/
theorem origin_apply (n : BitVec 32) (i : S_.Idx) : origin (F := Ideal) n i = 0#32 := rfl

/-- A layer's index read signed is itself. -/
theorem layer_toInt : ∀ s : Fin 2, (BitVec.ofNat 32 s.val).toInt = s.val := by decide

section Layer
variable {t : C Ideal S_ .i32} {s : Fin 2} (hs : t (fun a => a.elim0) = BitVec.ofNat 32 s.val)
include hs

/-- Where the row starts: at the layer and two zeros. -/
theorem starts (n n' : BitVec 32) : (fun k => ((![wrapped (F := Ideal) t, origin (F := Ideal) n, origin (F := Ideal) n'] : Fin 3 → C Ideal S_ .i32) k (Shape.Idx.first h_S_)).toInt)
    = ![(s.val : Int), 0, 0] := by
  funext k
  match k with
  | 0 => exact (congrArg BitVec.toInt (wrapped_apply hs _)).trans (layer_toInt s)
  | 1 => rfl
  | 2 => rfl

/-- The stacked weights' row at layer `s`. -/
theorem rowOf_apply (x : C Ideal S2x128x500 .f32) (l : Fin 128) (k : Fin 500) : rowOf (F := Ideal) x t (ix2 l k) = x (ix3 s l k) := by
  unfold rowOf
  rw [starts hs]
  simp only [pointwise]
  refine congrArg x (funext fun a => Fin.ext ?_)
  match a with
  | ⟨0, _⟩ =>
    exact Host.clampedStart_of_le (s := S2x128x500) (t := S1x128x500) rfl ![(s.val : Int), 0, 0] 0 s.val rfl (show s.val + 1 ≤ 2 by omega)
  | ⟨1, _⟩ => exact Nat.zero_add _
  | ⟨2, _⟩ => exact Nat.zero_add _

/-- A gate at layer `s`. -/
theorem gate_apply (x : C Ideal S2x2x128 .f32) (l : Fin 128) : gate (F := Ideal) x t (ix1 l) = Ideal.logistic (x (ix3 s 0 l)) := by
  unfold gate
  rw [starts hs]
  simp only [pointwise]
  refine congrArg (fun y => Ideal.logistic (x y)) (funext fun a => Fin.ext ?_)
  match a with
  | ⟨0, _⟩ =>
    exact Host.clampedStart_of_le (s := S2x2x128) (t := S1x2x128) rfl ![(s.val : Int), 0, 0] 0 s.val rfl (show s.val + 1 ≤ 2 by omega)
  | ⟨1, _⟩ => rfl
  | ⟨2, _⟩ =>
    change 0 + (0 + l.val) = l.val
    omega

end Layer

/-- The word of minus infinity. -/
theorem neg_inf : Ideal.ofBits .f32 0xFF800000#32 = ⊥ := by simp [Ideal.ofBits, Ideal.ieee]

/-- A softmax at an index: the row's exponential over the sum. -/
theorem softmax_apply (x : C Ideal S128x250 .f32) (l : Fin 128) (k : Fin 250) : softmax (F := Ideal) x (ix2 l k) =
    Ideal.div (Cert.Mix.power (fun j => x (ix2 l j)) k) (Cert.Mix.mass fun j => x (ix2 l j)) := by
  unfold softmax powers along
  simp only [pointwise]
  rw [neg_inf, zero_add]
  simp only [bot_sup_eq]
  rfl

/-- The first half at an index. -/
theorem firstHalf_apply (x : C Ideal S128x500 .f32) (l : Fin 128) (k : Fin 250) : firstHalf (F := Ideal) x (ix2 l k) = x (ix2 l (⟨k.val, by omega⟩ : Fin 500)) := by
  unfold firstHalf
  simp only [pointwise]
  congr 2 <;> exact Fin.ext (Nat.zero_add _)

/-- The second half at an index. -/
theorem secondHalf_apply (x : C Ideal S128x500 .f32) (l : Fin 128) (k : Fin 250) : secondHalf (F := Ideal) x (ix2 l k) = x (ix2 l (⟨250 + k.val, by omega⟩ : Fin 500)) := by
  unfold secondHalf
  simp only [pointwise]
  congr 2
  exact Fin.ext (Nat.zero_add _)

/-- A value per row, along the row. -/
theorem along_apply (x : C Ideal S128 .f32) (l : Fin 128) (k : Fin 250) : along (F := Ideal) x (ix2 l k) = x (ix1 l) := by
  unfold along
  simp only [pointwise]
  rfl

/-- The last column at an index. -/
theorem lastCol_apply (x y : C Ideal S128 .f32) (l : Fin 128) (k : Fin 1) : lastCol (F := Ideal) x y (ix2 l k) = Cert.Mix.rest (x (ix1 l)) (y (ix1 l)) := by
  unfold lastCol
  simp only [pointwise]
  rfl

section Joined
variable (x y : C Ideal S128x250 .f32) (z : C Ideal S128x1 .f32) (k : Fin 250) (l : Fin 128)

/-- The first 250 columns are the first part. -/
theorem joined_first : joined (F := Ideal) x y z (ix2 l (⟨k.val, by omega⟩ : Fin 501)) = x (ix2 l k) :=
  concatenate_apply_piece 1 [⟨S128x250, x⟩, ⟨S128x250, y⟩, ⟨S128x1, z⟩] concatenates_S128x250_S128x250_S128x1_S128x501_d1 _ 0 (by decide : 0 < 3) S128x250 x rfl rfl 0 rfl (ix2 l k)
    (fun b hb => by fin_cases b; exacts [rfl, absurd rfl hb]) (Nat.zero_add _)

/-- The next 250 are the second part. -/
theorem joined_second : joined (F := Ideal) x y z (ix2 l (⟨250 + k.val, by omega⟩ : Fin 501)) = y (ix2 l k) :=
  concatenate_apply_piece 1 [⟨S128x250, x⟩, ⟨S128x250, y⟩, ⟨S128x1, z⟩] concatenates_S128x250_S128x250_S128x1_S128x501_d1 _ 1 (by decide : 1 < 3) S128x250 y rfl rfl 250 rfl (ix2 l k)
    (fun b hb => by fin_cases b; exacts [rfl, absurd rfl hb]) rfl

/-- The last is the third. -/
theorem joined_last : joined (F := Ideal) x y z (ix2 l (⟨500, by omega⟩ : Fin 501)) = z (ix2 l 0) :=
  concatenate_apply_piece 1 [⟨S128x250, x⟩, ⟨S128x250, y⟩, ⟨S128x1, z⟩] concatenates_S128x250_S128x250_S128x1_S128x501_d1 _ 2 (by decide : 2 < 3) S128x1 z rfl rfl 500 rfl (ix2 l 0)
    (fun b hb => by fin_cases b; exacts [rfl, absurd rfl hb]) rfl

end Joined

section Table
variable {t : C Ideal S_ .i32} {s : Fin 2} (hs : t (fun a => a.elim0) = BitVec.ofNat 32 s.val)
  (x : C Ideal S2x128x500 .f32) (a b : C Ideal S2x2x128 .f32) (k : Fin 250) (l : Fin 128)
include hs

/-- The weights' first 250 rows. -/
theorem table_first : table (F := Ideal) x a b t (ix2 (⟨k.val, by omega⟩ : Fin 501) l) =
    Ideal.div (Cert.Mix.power (fun j => x (ix3 s l (⟨j.val, by omega⟩ : Fin 500))) k) (Cert.Mix.mass fun j => x (ix3 s l (⟨j.val, by omega⟩ : Fin 500)))
      * Ideal.logistic (a (ix3 s 0 l)) := by
  unfold table
  simp only [pointwise]
  rw [joined_first]
  simp only [pointwise]
  rw [softmax_apply, along_apply, gate_apply hs]
  simp only [firstHalf_apply, rowOf_apply hs]

/-- The next 250. -/
theorem table_second : table (F := Ideal) x a b t (ix2 (⟨250 + k.val, by omega⟩ : Fin 501) l) =
    Ideal.div (Cert.Mix.power (fun j => x (ix3 s l (⟨250 + j.val, by omega⟩ : Fin 500))) k) (Cert.Mix.mass fun j => x (ix3 s l (⟨250 + j.val, by omega⟩ : Fin 500)))
      * Ideal.logistic (b (ix3 s 0 l)) := by
  unfold table
  simp only [pointwise]
  rw [joined_second]
  simp only [pointwise]
  rw [softmax_apply, along_apply, gate_apply hs]
  simp only [secondHalf_apply, rowOf_apply hs]

/-- The last. -/
theorem table_last : table (F := Ideal) x a b t (ix2 (⟨500, by omega⟩ : Fin 501) l) =
    Cert.Mix.rest (Ideal.logistic (a (ix3 s 0 l))) (Ideal.logistic (b (ix3 s 0 l))) := by
  unfold table
  simp only [pointwise]
  refine (joined_last _ _ _ l).trans ?_
  rw [lastCol_apply, gate_apply hs, gate_apply hs]

end Table

/-- The contraction with the clamp brought inside the reshape. -/
theorem clamped_eq (x : C Ideal S40000x501 .f32) (w : C Ideal S501x128 .f32) : clamped (F := Ideal) x w = shapeCast S10000x4x128 (fun i =>
   min (max (∑ k : Fin 501, (x (ix2 (i 0) k) : EReal) * (w (ix2 k (i 1)) : EReal)) 0) 1 : C Ideal S40000x128 .f32) shapeCasts_S40000x128_S10000x4x128 := by
  unfold clamped
  funext j
  unfold shapeCast
  simp only [pointwise]
  rw [zero_add]

end Cert.ReferenceIdeal.Hand

end
-- ==== Proof.Equal.lean ====
/-
  The equation: over the extended reals, at a time step of 0 or 1 and finite weights, what the kernel's run leaves is what
  the reference's run leaves. The two mixing tables agree row by row, so the contractions do.
-/
module

public import proofs.«01_k».proof.Proof.KernelIdealLayer
public import proofs.«01_k».proof.Proof.RefWeights
public import proofs.«01_k».proof.Proof.Range

@[expose] public section

set_option maxRecDepth 16384

noncomputable section

namespace Cert.Equal

open Idealize.ShloMosaic Idealize.ShloMosaic.TcCoe Idealize.SL.Sem
open Cert.KernelIdeal (nD τ sig main_arg0 main_arg3 main_arg6 main_arg9 main_arg10)
open Cert.KernelIdeal.Hand (InRange timeStep)
open Cert.KernelIdeal.Hand.Value (weights rows)

variable (m : (ℓ : Loc nD τ sig) → Buf (Elt Ideal) ℓ)

/-- The kernel's arguments, at the reference's types. -/
abbrev inp (c : Dev nD) : Vec Ideal Cert.ReferenceIdeal.S40000x501 .f32 := m ((c.tc : Thread nD τ).loc main_arg0)
abbrev step (c : Dev nD) : Vec Ideal Cert.ReferenceIdeal.S_ .i32 := m ((c.tc : Thread nD τ).loc main_arg3)
abbrev wts (c : Dev nD) : Vec Ideal Cert.ReferenceIdeal.S2x128x500 .f32 := m ((c.tc : Thread nD τ).loc main_arg6)
abbrev gateA (c : Dev nD) : Vec Ideal Cert.ReferenceIdeal.S2x2x128 .f32 := m ((c.tc : Thread nD τ).loc main_arg9)
abbrev gateB (c : Dev nD) : Vec Ideal Cert.ReferenceIdeal.S2x2x128 .f32 := m ((c.tc : Thread nD τ).loc main_arg10)

/-- The reference's mixing table at the kernel's arguments. -/
abbrev tableAt (c : Dev nD) : Vec Ideal Cert.ReferenceIdeal.S501x128 .f32 :=
  Cert.ReferenceIdeal.Hand.table (F := Ideal) (wts m c) (gateA m c) (gateB m c) (step m c)

/-- Row by row the kernel's weights are the reference's. -/
theorem weights_eq_table (hR : InRange m) (c : Dev nD) (s : Fin 2) (hs : timeStep m = BitVec.ofNat 32 s.val)
    (hw : ∀ i, (wts m c i : EReal) ≠ ⊤ ∧ (wts m c i : EReal) ≠ ⊥) (k : Fin 501) (l : Fin 128) :
    weights m hR c (ix2 k l) = tableAt m c (ix2 k l) := by
  have ht : step m c (fun a => a.elim0) = BitVec.ofNat 32 s.val := by
    obtain rfl : c = 0 := Subsingleton.elim _ _
    exact hs
  obtain ⟨k, hk⟩ := k
  rcases Nat.lt_or_ge k 250 with h1 | h1
  · refine (Cert.KernelIdeal.Hand.Value.weights_first m hR c s hs ⟨k, h1⟩ l).trans ((Cert.Mix.scaled_eq (fun i => hw _) _ _).trans ?_)
    exact (Cert.ReferenceIdeal.Hand.table_first ht (wts m c) (gateA m c) (gateB m c) ⟨k, h1⟩ l).symm
  rcases Nat.lt_or_ge k 500 with h2 | h2
  · obtain ⟨j, rfl⟩ := Nat.exists_eq_add_of_le h1
    have hj : j < 250 := by omega
    refine (Cert.KernelIdeal.Hand.Value.weights_second m hR c s hs ⟨j, hj⟩ l).trans ((Cert.Mix.scaled_eq (fun i => hw _) _ _).trans ?_)
    exact (Cert.ReferenceIdeal.Hand.table_second ht (wts m c) (gateA m c) (gateB m c) ⟨j, hj⟩ l).symm
  · obtain rfl : k = 500 := by omega
    exact (Cert.KernelIdeal.Hand.Value.weights_last m hR c s hs l).trans
      (Cert.ReferenceIdeal.Hand.table_last ht (wts m c) (gateA m c) (gateB m c) l).symm

/-- So the results are. -/
theorem results_eq (hR : InRange m) (c : Dev nD) (s : Fin 2) (hs : timeStep m = BitVec.ofNat 32 s.val)
    (hw : ∀ i, (wts m c i : EReal) ≠ ⊤ ∧ (wts m c i : EReal) ≠ ⊥) :
    Cert.ReferenceIdeal.Hand.clamped (F := Ideal) (inp m c) (tableAt m c)
      = shapeCast Cert.KernelIdeal.S10000x4x128 (rows m hR c) Cert.KernelIdeal.Gen.shapeCasts_S40000x128_S10000x4x128 := by
  rw [Cert.ReferenceIdeal.Hand.clamped_eq]
  refine congrArg (fun x : Vec Ideal Cert.KernelIdeal.S40000x128 .f32 => shapeCast Cert.KernelIdeal.S10000x4x128 x Cert.KernelIdeal.Gen.shapeCasts_S40000x128_S10000x4x128) ?_
  funext i
  unfold rows
  refine congrArg (fun x : EReal => min (max x 0) 1) (Finset.sum_congr rfl fun k _ => ?_)
  rw [Cert.KernelIdeal.Hand.Value.inputT_apply m c k (i 0), weights_eq_table m hR c s hs hw k (i 1)]

end Cert.Equal

end
-- ==== Proof.lean ====
/- The claims, each from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_t_in_range
public import proofs.«01_k».proof.Proof.RangeStep
public import proofs.«01_k».proof.Proof.KernelFrame
public import proofs.«01_k».proof.Proof.KernelIdealFrame
public import proofs.«01_k».proof.Proof.RefRun
public import proofs.«01_k».proof.Proof.Range
public import proofs.«01_k».proof.Proof.Equal

@[expose] public section

noncomputable section

namespace Cert.Proof

open Idealize.ShloMosaic Idealize.SL.Sem

/-- The kernel over the bits runs to the end, keeps its arguments and leaves every counter at zero. -/
theorem kernel_frame : Cert.quiescent_Kernel := fun m g h =>
  Cert.Kernel.Hand.Frame.args_kept m g (Cert.Range.step_of_range (h 0))

/-- The kernel over the extended reals likewise. -/
theorem ideal_frame : Cert.quiescent_KernelIdeal := fun m g h =>
  Cert.KernelIdeal.Hand.Frame.args_kept m g (Cert.Range.step_of_range (h 0))

/-- The reference over the extended reals likewise, at any time step. -/
theorem reference_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Hand.run_main m g)

/-- The idealized kernel's frame under the longer precondition. -/
theorem ideal_frame_finite : Cert.quiescent_KernelIdeal_pre_t_in_range_w_finite := fun m g h =>
  Cert.KernelIdeal.Hand.Frame.args_kept m g (Cert.Range.step_of_finite (h 0))

/-- The reference's, which needs none. -/
theorem reference_frame_finite : Cert.quiescent_ReferenceIdeal_pre_t_in_range_w_finite := fun m g _ =>
  (θ_run Cert.ReferenceIdeal.defs _ _).mono
    (fun r h => ⟨fun c => (h c).2, sem_eq_zero_of_no_sems (by decide) r.2⟩) (Cert.ReferenceIdeal.Hand.run_main m g)

/-- A time step in range names a layer. -/
theorem layer_of {w : BitVec 32} (h : w = 0#32 ∨ w = 1#32) : ∃ s : Fin 2, w = BitVec.ofNat 32 s.val :=
  h.elim (fun e => ⟨0, e⟩) fun e => ⟨1, e⟩

/-- From the same arguments, a time step in range and finite weights, the two results are equal in the extended reals. -/
theorem value : Cert.algebraic_KernelIdeal_ReferenceIdeal_pre_t_in_range_w_finite := by
  intro m g m' g' h hm
  have hR : Cert.KernelIdeal.Hand.InRange m := Cert.Range.step_of_finite (h 0)
  obtain ⟨s, hs⟩ := layer_of hR
  refine ⟨fun c => shapeCast Cert.KernelIdeal.S10000x4x128 (Cert.KernelIdeal.Hand.Value.rows m hR c)
    Cert.KernelIdeal.Gen.shapeCasts_S40000x128_S10000x4x128, ?_, ?_⟩
  · refine (θ_run Cert.KernelIdeal.defs _ _).mono (fun r k c => ⟨k.1 c, k.2.1 c⟩)
      (θ_run_and (Cert.KernelIdeal.Hand.Value.result_run m g hR) (Cert.KernelIdeal.Hand.Frame.args_kept m g hR))
  · refine (θ_run Cert.ReferenceIdeal.defs _ _).mono (fun r k c => ⟨(k c).1.trans ?_, (k c).2⟩) (Cert.ReferenceIdeal.Hand.run_main m' g')
    obtain ⟨e0, -, -, e3, -, -, e6, -, -, e9, e10⟩ := hm c
    rw [e0, e3, e6, e9, e10]
    exact Cert.Equal.results_eq m hR c s hs (Cert.Range.weight_finite (h c))

/-- All of the claims. -/
theorem claim : Cert.Claim :=
  ⟨Cert.Kernel.Gen.facts, Cert.KernelIdeal.Gen.facts, Cert.ReferenceIdeal.Gen.facts, Cert.Pre_t_in_range.Gen.facts, Cert.Range.finiteFacts,
    kernel_frame, ideal_frame, ideal_frame_finite, reference_frame, reference_frame_finite, trivial, value⟩

end Cert.Proof

end
